-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x394CCCCD#32 ((1 / 5120 : ℝ) : EReal)
  ∧ IdealRules.named_const.Statement Cert.KernelIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_v13_3) = v3 c
          ∧ r.2.mem ((c.tc : Thread Cert.ReferenceIdeal.nD Cert.ReferenceIdeal.τ).loc Cert.ReferenceIdeal.main_v13_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x5120 : Shape := ⟨3, ![4, 4096, 5120]⟩
abbrev S5120 : Shape := ⟨1, ![5120]⟩
abbrev S5120x1792 : Shape := ⟨2, ![5120, 1792]⟩
abbrev S1792 : Shape := ⟨1, ![1792]⟩
abbrev S4x4096 : Shape := ⟨2, ![4, 4096]⟩
abbrev S64 : Shape := ⟨1, ![64]⟩
abbrev S_ : Shape := ⟨0, ![]⟩
abbrev S128 : Shape := ⟨1, ![128]⟩
abbrev S1x128 : Shape := ⟨2, ![1, 128]⟩
abbrev S1x5120 : Shape := ⟨2, ![1, 5120]⟩
abbrev S1x1792 : Shape := ⟨2, ![1, 1792]⟩
abbrev S4x10x4096x128 : Shape := ⟨4, ![4, 10, 4096, 128]⟩
abbrev S4x4096x2x128 : Shape := ⟨4, ![4, 4096, 2, 128]⟩
abbrev S4x40x4096 : Shape := ⟨3, ![4, 40, 4096]⟩
abbrev S1x256x5120 : Shape := ⟨3, ![1, 256, 5120]⟩
abbrev S1x10x256x128 : Shape := ⟨4, ![1, 10, 256, 128]⟩
abbrev S1x256x2x128 : Shape := ⟨4, ![1, 256, 2, 128]⟩
abbrev S1x40x256 : Shape := ⟨3, ![1, 40, 256]⟩
abbrev S256x5120 : Shape := ⟨2, ![256, 5120]⟩
abbrev S256x128 : Shape := ⟨2, ![256, 128]⟩
abbrev S1x256 : Shape := ⟨2, ![1, 256]⟩
abbrev S128x128 : Shape := ⟨2, ![128, 128]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S40x128 : Shape := ⟨2, ![40, 128]⟩
abbrev S1x40x128 : Shape := ⟨3, ![1, 40, 128]⟩
abbrev S5120x256 : Shape := ⟨2, ![5120, 256]⟩
abbrev S256x256 : Shape := ⟨2, ![256, 256]⟩
abbrev S1x1x256x128 : Shape := ⟨4, ![1, 1, 256, 128]⟩
abbrev S256x1x128 : Shape := ⟨3, ![256, 1, 128]⟩
abbrev S256x2x128 : Shape := ⟨3, ![256, 2, 128]⟩

abbrev nBuf : Space → Nat
  | .hbm => 26
  | .vmem => 22
  | .smem => 0
  | _ => 0

abbrev bufTy : (tb : Table) → Fin (tcTables nBuf tb) → BufTy
  | .hbm, ⟨0, _⟩ => ⟨S4x4096x5120, .bf16⟩
  | .hbm, ⟨1, _⟩ => ⟨S5120, .bf16⟩
  | .hbm, ⟨2, _⟩ => ⟨S5120x1792, .fp8e4m3⟩
  | .hbm, ⟨3, _⟩ => ⟨S1792, .f32⟩
  | .hbm, ⟨4, _⟩ => ⟨S4x4096, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S128, .f32⟩
  | .hbm, ⟨17, _⟩ => ⟨S1x128, .f32⟩
  | .hbm, ⟨18, _⟩ => ⟨S5120, .f32⟩
  | .hbm, ⟨19, _⟩ => ⟨S1x5120, .f32⟩
  | .hbm, ⟨20, _⟩ => ⟨S1x1792, .f32⟩
  | .hbm, ⟨21, _⟩ => ⟨S4x10x4096x128, .bf16⟩
  | .hbm, ⟨22, _⟩ => ⟨S4x4096x2x128, .bf16⟩
  | .hbm, ⟨23, _⟩ => ⟨S4x4096x2x128, .bf16⟩
  | .hbm, ⟨24, _⟩ => ⟨S4x4096x5120, .fp8e4m3⟩
  | .hbm, ⟨25, _⟩ => ⟨S4x40x4096, .f32⟩
  | .local _ .vmem, ⟨0, _⟩ => ⟨S4x4096, .i32⟩
  | .local _ .vmem, ⟨1, _⟩ => ⟨S1x256x5120, .bf16⟩
  | .local _ .vmem, ⟨2, _⟩ => ⟨S1x256x5120, .bf16⟩
  | .local _ .vmem, ⟨3, _⟩ => ⟨S1x5120, .f32⟩
  | .local _ .vmem, ⟨4, _⟩ => ⟨S5120x1792, .fp8e4m3⟩
  | .local _ .vmem, ⟨5, _⟩ => ⟨S1x1792, .f32⟩
  | .local _ .vmem, ⟨6, _⟩ => ⟨S1x128, .f32⟩
  | .local _ .vmem, ⟨7, _⟩ => ⟨S1x10x256x128, .bf16⟩
  | .local _ .vmem, ⟨8, _⟩ => ⟨S1x10x256x128, .bf16⟩
  | .local _ .vmem, ⟨9, _⟩ => ⟨S1x256x2x128, .bf16⟩
  | .local _ .vmem, ⟨10, _⟩ => ⟨S1x256x2x128, .bf16⟩
  | .local _ .vmem, ⟨11, _⟩ => ⟨S1x256x2x128, .bf16⟩
  | .local _ .vmem, ⟨12, _⟩ => ⟨S1x256x2x128, .bf16⟩
  | .local _ .vmem, ⟨13, _⟩ => ⟨S1x256x5120, .fp8e4m3⟩
  | .local _ .vmem, ⟨14, _⟩ => ⟨S1x256x5120, .fp8e4m3⟩
  | .local _ .vmem, ⟨15, _⟩ => ⟨S1x40x256, .f32⟩
  | .local _ .vmem, ⟨16, _⟩ => ⟨S1x40x256, .f32⟩
  | .local _ .vmem, ⟨17, _⟩ => ⟨S256x5120, .bf16⟩
  | .local _ .vmem, ⟨18, _⟩ => ⟨S256x5120, .bf16⟩
  | .local _ .vmem, ⟨19, _⟩ => ⟨S256x128, .f32⟩
  | .local _ .vmem, ⟨20, _⟩ => ⟨S256x128, .f32⟩
  | .local _ .vmem, ⟨21, _⟩ => ⟨S256x128, .f32⟩
  | _, _ => ⟨S4x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_mult1 (i : grid0.Coords) : BitVec 32 :=
  let arg0 : BitVec 32 := BitVec.ofNat 32 (i 0).val
  let c1_i32_5 : BitVec 32 := 1#32
  let v11 : BitVec 32 := Scalar.subi arg0 c1_i32_5
  let c0_i32_6 : BitVec 32 := 0#32
  let v12 : BitVec 32 := Scalar.maxsi v11 c0_i32_6
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32 : BitVec 32 := 16#32
  let c0_i32_9 : BitVec 32 := 0#32
  let v19 : BitVec 1 := Scalar.cmpi .sgt c16_i32 c0_i32_9
  let v20 : BitVec 32 := Scalar.extui v19
  let c0_i32_10 : BitVec 32 := 0#32
  let v21 : BitVec 1 := Scalar.cmpi .slt c16_i32 c0_i32_10
  let v22 : BitVec 32 := Scalar.extui v21
  let v23 : BitVec 32 := Scalar.subi v20 v22
  let v24 : BitVec 1 := Scalar.cmpi .ne v18 v23
  let v25 : BitVec 32 := Scalar.remsi v12 c16_i32
  let c0_i32_11 : BitVec 32 := 0#32
  let v26 : BitVec 1 := Scalar.cmpi .ne v25 c0_i32_11
  let v27 : BitVec 1 := Scalar.andi v24 v26
  let v13 : BitVec 32 := Scalar.divsi v12 c16_i32
  let c1_i32_12 : BitVec 32 := 1#32
  let v28 : BitVec 32 := Scalar.subi v13 c1_i32_12
  let v29 : BitVec 32 := Scalar.select v27 v28 v13
  let c16_i32_13 : BitVec 32 := 16#32
  let v30 : BitVec 32 := Scalar.muli v29 c16_i32_13
  let v31 : BitVec 32 := Scalar.subi v12 v30
  let c256_i32 : BitVec 32 := 256#32
  let v32 : BitVec 32 := Scalar.muli v31 c256_i32
  v32
def k0_off1 (i : grid0.Coords) : Fin 2 → Nat :=
  let arg0 : BitVec 32 := BitVec.ofNat 32 (i 0).val
  let c1_i32_5 : BitVec 32 := 1#32
  let v11 : BitVec 32 := Scalar.subi arg0 c1_i32_5
  let c0_i32_6 : BitVec 32 := 0#32
  let v12 : BitVec 32 := Scalar.maxsi v11 c0_i32_6
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32 : BitVec 32 := 16#32
  let c0_i32_9 : BitVec 32 := 0#32
  let v19 : BitVec 1 := Scalar.cmpi .sgt c16_i32 c0_i32_9
  let v20 : BitVec 32 := Scalar.extui v19
  let c0_i32_10 : BitVec 32 := 0#32
  let v21 : BitVec 1 := Scalar.cmpi .slt c16_i32 c0_i32_10
  let v22 : BitVec 32 := Scalar.extui v21
  let v23 : BitVec 32 := Scalar.subi v20 v22
  let v24 : BitVec 1 := Scalar.cmpi .ne v18 v23
  let v25 : BitVec 32 := Scalar.remsi v12 c16_i32
  let c0_i32_11 : BitVec 32 := 0#32
  let v26 : BitVec 1 := Scalar.cmpi .ne v25 c0_i32_11
  let v27 : BitVec 1 := Scalar.andi v24 v26
  let v13 : BitVec 32 := Scalar.divsi v12 c16_i32
  let c1_i32_12 : BitVec 32 := 1#32
  let v28 : BitVec 32 := Scalar.subi v13 c1_i32_12
  let v29 : BitVec 32 := Scalar.select v27 v28 v13
  let v34 : Index := Scalar.indexCast v29
  let c16_i32_13 : BitVec 32 := 16#32
  let v30 : BitVec 32 := Scalar.muli v29 c16_i32_13
  let v31 : BitVec 32 := Scalar.subi v12 v30
  let c256_i32 : BitVec 32 := 256#32
  let v32 : BitVec 32 := Scalar.muli v31 c256_i32
  let v33 : BitVec 32 := v32
  let v35 : Index := Scalar.indexCast v33
  ![v34.toNat, v35.toNat]
@[reducible] def k0_t1_loop : Scf.Loop 32 :=
  let c0_i32_25 : BitVec 32 := 0#32
  let c8_i32 : BitVec 32 := 8#32
  let v83 : BitVec 32 := Scalar.addi c0_i32_25 c8_i32
  let c1_i32_26 : BitVec 32 := 1#32
  ⟨c0_i32_25, v83, c1_i32_26⟩
def k0_mult2 (k0_t1 : Fin k0_t1_loop.trips) : BitVec 32 :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  v265
def k0_off2 (k0_t1 : Fin k0_t1_loop.trips) : Fin 3 → Nat :=
  let c0_139 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v268 : Index := Scalar.indexCast v266
  let c0_140 : Index := 0#32
  ![0, v268.toNat, 0]
def k0_off3 (k0_t1 : Fin k0_t1_loop.trips) : Fin 3 → Nat :=
  let c0_141 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v274 : Index := Scalar.indexCast v266
  let c128_142 : Index := 128#32
  ![0, v274.toNat, 128]
def k0_off4 (k0_t1 : Fin k0_t1_loop.trips) : Fin 3 → Nat :=
  let c0_143 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v280 : Index := Scalar.indexCast v266
  let c256_144 : Index := 256#32
  ![0, v280.toNat, 256]
def k0_off5 (k0_t1 : Fin k0_t1_loop.trips) : Fin 3 → Nat :=
  let c0_145 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v286 : Index := Scalar.indexCast v266
  let c384 : Index := 384#32
  ![0, v286.toNat, 384]
def k0_off6 (k0_t1 : Fin k0_t1_loop.trips) : Fin 3 → Nat :=
  let c0_146 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v292 : Index := Scalar.indexCast v266
  let c512_147 : Index := 512#32
  ![0, v292.toNat, 512]
def k0_off7 (k0_t1 : Fin k0_t1_loop.trips) : Fin 3 → Nat :=
  let c0_148 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v298 : Index := Scalar.indexCast v266
  let c640 : Index := 640#32
  ![0, v298.toNat, 640]
def k0_off8 (k0_t1 : Fin k0_t1_loop.trips) : Fin 3 → Nat :=
  let c0_149 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v304 : Index := Scalar.indexCast v266
  let c768_150 : Index := 768#32
  ![0, v304.toNat, 768]
def k0_off9 (k0_t1 : Fin k0_t1_loop.trips) : Fin 3 → Nat :=
  let c0_151 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v310 : Index := Scalar.indexCast v266
  let c896 : Index := 896#32
  ![0, v310.toNat, 896]
def k0_off10 (k0_t1 : Fin k0_t1_loop.trips) : Fin 3 → Nat :=
  let c0_152 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v316 : Index := Scalar.indexCast v266
  let c1024_153 : Index := 1024#32
  ![0, v316.toNat, 1024]
def k0_off11 (k0_t1 : Fin k0_t1_loop.trips) : Fin 3 → Nat :=
  let c0_154 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v322 : Index := Scalar.indexCast v266
  let c1152 : Index := 1152#32
  ![0, v322.toNat, 1152]
def k0_off12 (k0_t1 : Fin k0_t1_loop.trips) : Fin 3 → Nat :=
  let c0_155 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v328 : Index := Scalar.indexCast v266
  let c1280_156 : Index := 1280#32
  ![0, v328.toNat, 1280]
def k0_off13 (k0_t1 : Fin k0_t1_loop.trips) : Fin 3 → Nat :=
  let c0_157 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v334 : Index := Scalar.indexCast v266
  let c1408 : Index := 1408#32
  ![0, v334.toNat, 1408]
def k0_off14 (k0_t1 : Fin k0_t1_loop.trips) : Fin 3 → Nat :=
  let c0_158 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v340 : Index := Scalar.indexCast v266
  let c1536_159 : Index := 1536#32
  ![0, v340.toNat, 1536]
def k0_off15 (k0_t1 : Fin k0_t1_loop.trips) : Fin 3 → Nat :=
  let c0_160 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v346 : Index := Scalar.indexCast v266
  let c1664 : Index := 1664#32
  ![0, v346.toNat, 1664]
def k0_off16 (k0_t1 : Fin k0_t1_loop.trips) : Fin 3 → Nat :=
  let c0_161 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v352 : Index := Scalar.indexCast v266
  let c1792 : Index := 1792#32
  ![0, v352.toNat, 1792]
def k0_off17 (k0_t1 : Fin k0_t1_loop.trips) : Fin 3 → Nat :=
  let c0_162 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v358 : Index := Scalar.indexCast v266
  let c1920 : Index := 1920#32
  ![0, v358.toNat, 1920]
def k0_off18 (k0_t1 : Fin k0_t1_loop.trips) : Fin 3 → Nat :=
  let c0_163 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v364 : Index := Scalar.indexCast v266
  let c2048 : Index := 2048#32
  ![0, v364.toNat, 2048]
def k0_off19 (k0_t1 : Fin k0_t1_loop.trips) : Fin 3 → Nat :=
  let c0_164 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v370 : Index := Scalar.indexCast v266
  let c2176 : Index := 2176#32
  ![0, v370.toNat, 2176]
def k0_off20 (k0_t1 : Fin k0_t1_loop.trips) : Fin 3 → Nat :=
  let c0_165 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v376 : Index := Scalar.indexCast v266
  let c2304 : Index := 2304#32
  ![0, v376.toNat, 2304]
def k0_off21 (k0_t1 : Fin k0_t1_loop.trips) : Fin 3 → Nat :=
  let c0_166 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v382 : Index := Scalar.indexCast v266
  let c2432 : Index := 2432#32
  ![0, v382.toNat, 2432]
def k0_off22 (k0_t1 : Fin k0_t1_loop.trips) : Fin 3 → Nat :=
  let c0_167 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v388 : Index := Scalar.indexCast v266
  let c2560 : Index := 2560#32
  ![0, v388.toNat, 2560]
def k0_off23 (k0_t1 : Fin k0_t1_loop.trips) : Fin 3 → Nat :=
  let c0_168 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v394 : Index := Scalar.indexCast v266
  let c2688 : Index := 2688#32
  ![0, v394.toNat, 2688]
def k0_off24 (k0_t1 : Fin k0_t1_loop.trips) : Fin 3 → Nat :=
  let c0_169 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v400 : Index := Scalar.indexCast v266
  let c2816 : Index := 2816#32
  ![0, v400.toNat, 2816]
def k0_off25 (k0_t1 : Fin k0_t1_loop.trips) : Fin 3 → Nat :=
  let c0_170 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v406 : Index := Scalar.indexCast v266
  let c2944 : Index := 2944#32
  ![0, v406.toNat, 2944]
def k0_off26 (k0_t1 : Fin k0_t1_loop.trips) : Fin 3 → Nat :=
  let c0_171 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v412 : Index := Scalar.indexCast v266
  let c3072 : Index := 3072#32
  ![0, v412.toNat, 3072]
def k0_off27 (k0_t1 : Fin k0_t1_loop.trips) : Fin 3 → Nat :=
  let c0_172 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v418 : Index := Scalar.indexCast v266
  let c3200 : Index := 3200#32
  ![0, v418.toNat, 3200]
def k0_off28 (k0_t1 : Fin k0_t1_loop.trips) : Fin 3 → Nat :=
  let c0_173 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v424 : Index := Scalar.indexCast v266
  let c3328 : Index := 3328#32
  ![0, v424.toNat, 3328]
def k0_off29 (k0_t1 : Fin k0_t1_loop.trips) : Fin 3 → Nat :=
  let c0_174 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v430 : Index := Scalar.indexCast v266
  let c3456 : Index := 3456#32
  ![0, v430.toNat, 3456]
def k0_off30 (k0_t1 : Fin k0_t1_loop.trips) : Fin 3 → Nat :=
  let c0_175 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v436 : Index := Scalar.indexCast v266
  let c3584 : Index := 3584#32
  ![0, v436.toNat, 3584]
def k0_off31 (k0_t1 : Fin k0_t1_loop.trips) : Fin 3 → Nat :=
  let c0_176 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v442 : Index := Scalar.indexCast v266
  let c3712 : Index := 3712#32
  ![0, v442.toNat, 3712]
def k0_off32 (k0_t1 : Fin k0_t1_loop.trips) : Fin 3 → Nat :=
  let c0_177 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v448 : Index := Scalar.indexCast v266
  let c3840 : Index := 3840#32
  ![0, v448.toNat, 3840]
def k0_off33 (k0_t1 : Fin k0_t1_loop.trips) : Fin 3 → Nat :=
  let c0_178 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v454 : Index := Scalar.indexCast v266
  let c3968 : Index := 3968#32
  ![0, v454.toNat, 3968]
def k0_off34 (k0_t1 : Fin k0_t1_loop.trips) : Fin 3 → Nat :=
  let c0_179 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v460 : Index := Scalar.indexCast v266
  let c4096 : Index := 4096#32
  ![0, v460.toNat, 4096]
def k0_off35 (k0_t1 : Fin k0_t1_loop.trips) : Fin 3 → Nat :=
  let c0_180 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v466 : Index := Scalar.indexCast v266
  let c4224 : Index := 4224#32
  ![0, v466.toNat, 4224]
def k0_off36 (k0_t1 : Fin k0_t1_loop.trips) : Fin 3 → Nat :=
  let c0_181 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v472 : Index := Scalar.indexCast v266
  let c4352 : Index := 4352#32
  ![0, v472.toNat, 4352]
def k0_off37 (k0_t1 : Fin k0_t1_loop.trips) : Fin 3 → Nat :=
  let c0_182 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v478 : Index := Scalar.indexCast v266
  let c4480 : Index := 4480#32
  ![0, v478.toNat, 4480]
def k0_off38 (k0_t1 : Fin k0_t1_loop.trips) : Fin 3 → Nat :=
  let c0_183 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v484 : Index := Scalar.indexCast v266
  let c4608 : Index := 4608#32
  ![0, v484.toNat, 4608]
def k0_off39 (k0_t1 : Fin k0_t1_loop.trips) : Fin 3 → Nat :=
  let c0_184 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v490 : Index := Scalar.indexCast v266
  let c4736 : Index := 4736#32
  ![0, v490.toNat, 4736]
def k0_off40 (k0_t1 : Fin k0_t1_loop.trips) : Fin 3 → Nat :=
  let c0_185 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v496 : Index := Scalar.indexCast v266
  let c4864 : Index := 4864#32
  ![0, v496.toNat, 4864]
def k0_off41 (k0_t1 : Fin k0_t1_loop.trips) : Fin 3 → Nat :=
  let c0_186 : Index := 0#32
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v502 : Index := Scalar.indexCast v266
  let c4992 : Index := 4992#32
  ![0, v502.toNat, 4992]
def k0_off42 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1255 : Index := Scalar.indexCast v266
  let c0_403 : Index := 0#32
  ![v1255.toNat, 0]
def k0_off43 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1288 : Index := Scalar.indexCast v266
  let c0_412 : Index := 0#32
  ![v1288.toNat, 0]
def k0_off44 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1320 : Index := Scalar.indexCast v266
  let c128_421 : Index := 128#32
  ![v1320.toNat, 128]
def k0_off45 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1352 : Index := Scalar.indexCast v266
  let c256_430 : Index := 256#32
  ![v1352.toNat, 256]
def k0_off46 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1384 : Index := Scalar.indexCast v266
  let c384_439 : Index := 384#32
  ![v1384.toNat, 384]
def k0_off47 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1416 : Index := Scalar.indexCast v266
  let c512_448 : Index := 512#32
  ![v1416.toNat, 512]
def k0_off48 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1448 : Index := Scalar.indexCast v266
  let c640_457 : Index := 640#32
  ![v1448.toNat, 640]
def k0_off49 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1480 : Index := Scalar.indexCast v266
  let c768_466 : Index := 768#32
  ![v1480.toNat, 768]
def k0_off50 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1512 : Index := Scalar.indexCast v266
  let c896_475 : Index := 896#32
  ![v1512.toNat, 896]
def k0_off51 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1544 : Index := Scalar.indexCast v266
  let c1024_484 : Index := 1024#32
  ![v1544.toNat, 1024]
def k0_off52 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1576 : Index := Scalar.indexCast v266
  let c1152_493 : Index := 1152#32
  ![v1576.toNat, 1152]
def k0_off53 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1608 : Index := Scalar.indexCast v266
  let c1280_502 : Index := 1280#32
  ![v1608.toNat, 1280]
def k0_off54 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1640 : Index := Scalar.indexCast v266
  let c1408_511 : Index := 1408#32
  ![v1640.toNat, 1408]
def k0_off55 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1672 : Index := Scalar.indexCast v266
  let c1536_520 : Index := 1536#32
  ![v1672.toNat, 1536]
def k0_off56 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1704 : Index := Scalar.indexCast v266
  let c1664_529 : Index := 1664#32
  ![v1704.toNat, 1664]
def k0_off57 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1736 : Index := Scalar.indexCast v266
  let c1792_538 : Index := 1792#32
  ![v1736.toNat, 1792]
def k0_off58 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1768 : Index := Scalar.indexCast v266
  let c1920_547 : Index := 1920#32
  ![v1768.toNat, 1920]
def k0_off59 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1800 : Index := Scalar.indexCast v266
  let c2048_556 : Index := 2048#32
  ![v1800.toNat, 2048]
def k0_off60 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1832 : Index := Scalar.indexCast v266
  let c2176_565 : Index := 2176#32
  ![v1832.toNat, 2176]
def k0_off61 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1864 : Index := Scalar.indexCast v266
  let c2304_574 : Index := 2304#32
  ![v1864.toNat, 2304]
def k0_off62 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1896 : Index := Scalar.indexCast v266
  let c2432_583 : Index := 2432#32
  ![v1896.toNat, 2432]
def k0_off63 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1928 : Index := Scalar.indexCast v266
  let c2560_592 : Index := 2560#32
  ![v1928.toNat, 2560]
def k0_off64 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1960 : Index := Scalar.indexCast v266
  let c2688_601 : Index := 2688#32
  ![v1960.toNat, 2688]
def k0_off65 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1992 : Index := Scalar.indexCast v266
  let c2816_610 : Index := 2816#32
  ![v1992.toNat, 2816]
def k0_off66 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2024 : Index := Scalar.indexCast v266
  let c2944_619 : Index := 2944#32
  ![v2024.toNat, 2944]
def k0_off67 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2056 : Index := Scalar.indexCast v266
  let c3072_628 : Index := 3072#32
  ![v2056.toNat, 3072]
def k0_off68 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2088 : Index := Scalar.indexCast v266
  let c3200_637 : Index := 3200#32
  ![v2088.toNat, 3200]
def k0_off69 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2120 : Index := Scalar.indexCast v266
  let c3328_646 : Index := 3328#32
  ![v2120.toNat, 3328]
def k0_off70 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2152 : Index := Scalar.indexCast v266
  let c3456_655 : Index := 3456#32
  ![v2152.toNat, 3456]
def k0_off71 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2184 : Index := Scalar.indexCast v266
  let c3584_664 : Index := 3584#32
  ![v2184.toNat, 3584]
def k0_off72 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2216 : Index := Scalar.indexCast v266
  let c3712_673 : Index := 3712#32
  ![v2216.toNat, 3712]
def k0_off73 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2248 : Index := Scalar.indexCast v266
  let c3840_682 : Index := 3840#32
  ![v2248.toNat, 3840]
def k0_off74 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2280 : Index := Scalar.indexCast v266
  let c3968_691 : Index := 3968#32
  ![v2280.toNat, 3968]
def k0_off75 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2312 : Index := Scalar.indexCast v266
  let c4096_700 : Index := 4096#32
  ![v2312.toNat, 4096]
def k0_off76 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2344 : Index := Scalar.indexCast v266
  let c4224_709 : Index := 4224#32
  ![v2344.toNat, 4224]
def k0_off77 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2376 : Index := Scalar.indexCast v266
  let c4352_718 : Index := 4352#32
  ![v2376.toNat, 4352]
def k0_off78 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2408 : Index := Scalar.indexCast v266
  let c4480_727 : Index := 4480#32
  ![v2408.toNat, 4480]
def k0_off79 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2440 : Index := Scalar.indexCast v266
  let c4608_736 : Index := 4608#32
  ![v2440.toNat, 4608]
def k0_off80 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2472 : Index := Scalar.indexCast v266
  let c4736_745 : Index := 4736#32
  ![v2472.toNat, 4736]
def k0_off81 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2504 : Index := Scalar.indexCast v266
  let c4864_754 : Index := 4864#32
  ![v2504.toNat, 4864]
def k0_off82 (k0_t1 : Fin k0_t1_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t1
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2536 : Index := Scalar.indexCast v266
  let c4992_763 : Index := 4992#32
  ![v2536.toNat, 4992]
def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def k0_mult3 (i : grid0.Coords) : BitVec 32 :=
  let arg0 : BitVec 32 := BitVec.ofNat 32 (i 0).val
  let c1_i32_5 : BitVec 32 := 1#32
  let v11 : BitVec 32 := Scalar.subi arg0 c1_i32_5
  let c0_i32_6 : BitVec 32 := 0#32
  let v12 : BitVec 32 := Scalar.maxsi v11 c0_i32_6
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32 : BitVec 32 := 16#32
  let c0_i32_9 : BitVec 32 := 0#32
  let v19 : BitVec 1 := Scalar.cmpi .sgt c16_i32 c0_i32_9
  let v20 : BitVec 32 := Scalar.extui v19
  let c0_i32_10 : BitVec 32 := 0#32
  let v21 : BitVec 1 := Scalar.cmpi .slt c16_i32 c0_i32_10
  let v22 : BitVec 32 := Scalar.extui v21
  let v23 : BitVec 32 := Scalar.subi v20 v22
  let v24 : BitVec 1 := Scalar.cmpi .ne v18 v23
  let v25 : BitVec 32 := Scalar.remsi v12 c16_i32
  let c0_i32_11 : BitVec 32 := 0#32
  let v26 : BitVec 1 := Scalar.cmpi .ne v25 c0_i32_11
  let v27 : BitVec 1 := Scalar.andi v24 v26
  let v13 : BitVec 32 := Scalar.divsi v12 c16_i32
  let c1_i32_12 : BitVec 32 := 1#32
  let v28 : BitVec 32 := Scalar.subi v13 c1_i32_12
  let v29 : BitVec 32 := Scalar.select v27 v28 v13
  let c16_i32_13 : BitVec 32 := 16#32
  let v30 : BitVec 32 := Scalar.muli v29 c16_i32_13
  let v31 : BitVec 32 := Scalar.subi v12 v30
  let c256_i32 : BitVec 32 := 256#32
  let v32 : BitVec 32 := Scalar.muli v31 c256_i32
  v32
def k0_off83 (i : grid0.Coords) : Fin 2 → Nat :=
  let arg0 : BitVec 32 := BitVec.ofNat 32 (i 0).val
  let c1_i32_5 : BitVec 32 := 1#32
  let v11 : BitVec 32 := Scalar.subi arg0 c1_i32_5
  let c0_i32_6 : BitVec 32 := 0#32
  let v12 : BitVec 32 := Scalar.maxsi v11 c0_i32_6
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32 : BitVec 32 := 16#32
  let c0_i32_9 : BitVec 32 := 0#32
  let v19 : BitVec 1 := Scalar.cmpi .sgt c16_i32 c0_i32_9
  let v20 : BitVec 32 := Scalar.extui v19
  let c0_i32_10 : BitVec 32 := 0#32
  let v21 : BitVec 1 := Scalar.cmpi .slt c16_i32 c0_i32_10
  let v22 : BitVec 32 := Scalar.extui v21
  let v23 : BitVec 32 := Scalar.subi v20 v22
  let v24 : BitVec 1 := Scalar.cmpi .ne v18 v23
  let v25 : BitVec 32 := Scalar.remsi v12 c16_i32
  let c0_i32_11 : BitVec 32 := 0#32
  let v26 : BitVec 1 := Scalar.cmpi .ne v25 c0_i32_11
  let v27 : BitVec 1 := Scalar.andi v24 v26
  let v13 : BitVec 32 := Scalar.divsi v12 c16_i32
  let c1_i32_12 : BitVec 32 := 1#32
  let v28 : BitVec 32 := Scalar.subi v13 c1_i32_12
  let v29 : BitVec 32 := Scalar.select v27 v28 v13
  let v34 : Index := Scalar.indexCast v29
  let c16_i32_13 : BitVec 32 := 16#32
  let v30 : BitVec 32 := Scalar.muli v29 c16_i32_13
  let v31 : BitVec 32 := Scalar.subi v12 v30
  let c256_i32 : BitVec 32 := 256#32
  let v32 : BitVec 32 := Scalar.muli v31 c256_i32
  let v33 : BitVec 32 := v32
  let v35 : Index := Scalar.indexCast v33
  ![v34.toNat, v35.toNat]
@[reducible] def k0_t2_loop : Scf.Loop 32 :=
  let c0_i32_25 : BitVec 32 := 0#32
  let c8_i32 : BitVec 32 := 8#32
  let v83 : BitVec 32 := Scalar.addi c0_i32_25 c8_i32
  let c1_i32_26 : BitVec 32 := 1#32
  ⟨c0_i32_25, v83, c1_i32_26⟩
def k0_mult4 (k0_t2 : Fin k0_t2_loop.trips) : BitVec 32 :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  v265
def k0_off84 (k0_t2 : Fin k0_t2_loop.trips) : Fin 3 → Nat :=
  let c0_139 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v268 : Index := Scalar.indexCast v266
  let c0_140 : Index := 0#32
  ![0, v268.toNat, 0]
def k0_off85 (k0_t2 : Fin k0_t2_loop.trips) : Fin 3 → Nat :=
  let c0_141 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v274 : Index := Scalar.indexCast v266
  let c128_142 : Index := 128#32
  ![0, v274.toNat, 128]
def k0_off86 (k0_t2 : Fin k0_t2_loop.trips) : Fin 3 → Nat :=
  let c0_143 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v280 : Index := Scalar.indexCast v266
  let c256_144 : Index := 256#32
  ![0, v280.toNat, 256]
def k0_off87 (k0_t2 : Fin k0_t2_loop.trips) : Fin 3 → Nat :=
  let c0_145 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v286 : Index := Scalar.indexCast v266
  let c384 : Index := 384#32
  ![0, v286.toNat, 384]
def k0_off88 (k0_t2 : Fin k0_t2_loop.trips) : Fin 3 → Nat :=
  let c0_146 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v292 : Index := Scalar.indexCast v266
  let c512_147 : Index := 512#32
  ![0, v292.toNat, 512]
def k0_off89 (k0_t2 : Fin k0_t2_loop.trips) : Fin 3 → Nat :=
  let c0_148 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v298 : Index := Scalar.indexCast v266
  let c640 : Index := 640#32
  ![0, v298.toNat, 640]
def k0_off90 (k0_t2 : Fin k0_t2_loop.trips) : Fin 3 → Nat :=
  let c0_149 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v304 : Index := Scalar.indexCast v266
  let c768_150 : Index := 768#32
  ![0, v304.toNat, 768]
def k0_off91 (k0_t2 : Fin k0_t2_loop.trips) : Fin 3 → Nat :=
  let c0_151 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v310 : Index := Scalar.indexCast v266
  let c896 : Index := 896#32
  ![0, v310.toNat, 896]
def k0_off92 (k0_t2 : Fin k0_t2_loop.trips) : Fin 3 → Nat :=
  let c0_152 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v316 : Index := Scalar.indexCast v266
  let c1024_153 : Index := 1024#32
  ![0, v316.toNat, 1024]
def k0_off93 (k0_t2 : Fin k0_t2_loop.trips) : Fin 3 → Nat :=
  let c0_154 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v322 : Index := Scalar.indexCast v266
  let c1152 : Index := 1152#32
  ![0, v322.toNat, 1152]
def k0_off94 (k0_t2 : Fin k0_t2_loop.trips) : Fin 3 → Nat :=
  let c0_155 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v328 : Index := Scalar.indexCast v266
  let c1280_156 : Index := 1280#32
  ![0, v328.toNat, 1280]
def k0_off95 (k0_t2 : Fin k0_t2_loop.trips) : Fin 3 → Nat :=
  let c0_157 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v334 : Index := Scalar.indexCast v266
  let c1408 : Index := 1408#32
  ![0, v334.toNat, 1408]
def k0_off96 (k0_t2 : Fin k0_t2_loop.trips) : Fin 3 → Nat :=
  let c0_158 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v340 : Index := Scalar.indexCast v266
  let c1536_159 : Index := 1536#32
  ![0, v340.toNat, 1536]
def k0_off97 (k0_t2 : Fin k0_t2_loop.trips) : Fin 3 → Nat :=
  let c0_160 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v346 : Index := Scalar.indexCast v266
  let c1664 : Index := 1664#32
  ![0, v346.toNat, 1664]
def k0_off98 (k0_t2 : Fin k0_t2_loop.trips) : Fin 3 → Nat :=
  let c0_161 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v352 : Index := Scalar.indexCast v266
  let c1792 : Index := 1792#32
  ![0, v352.toNat, 1792]
def k0_off99 (k0_t2 : Fin k0_t2_loop.trips) : Fin 3 → Nat :=
  let c0_162 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v358 : Index := Scalar.indexCast v266
  let c1920 : Index := 1920#32
  ![0, v358.toNat, 1920]
def k0_off100 (k0_t2 : Fin k0_t2_loop.trips) : Fin 3 → Nat :=
  let c0_163 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v364 : Index := Scalar.indexCast v266
  let c2048 : Index := 2048#32
  ![0, v364.toNat, 2048]
def k0_off101 (k0_t2 : Fin k0_t2_loop.trips) : Fin 3 → Nat :=
  let c0_164 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v370 : Index := Scalar.indexCast v266
  let c2176 : Index := 2176#32
  ![0, v370.toNat, 2176]
def k0_off102 (k0_t2 : Fin k0_t2_loop.trips) : Fin 3 → Nat :=
  let c0_165 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v376 : Index := Scalar.indexCast v266
  let c2304 : Index := 2304#32
  ![0, v376.toNat, 2304]
def k0_off103 (k0_t2 : Fin k0_t2_loop.trips) : Fin 3 → Nat :=
  let c0_166 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v382 : Index := Scalar.indexCast v266
  let c2432 : Index := 2432#32
  ![0, v382.toNat, 2432]
def k0_off104 (k0_t2 : Fin k0_t2_loop.trips) : Fin 3 → Nat :=
  let c0_167 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v388 : Index := Scalar.indexCast v266
  let c2560 : Index := 2560#32
  ![0, v388.toNat, 2560]
def k0_off105 (k0_t2 : Fin k0_t2_loop.trips) : Fin 3 → Nat :=
  let c0_168 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v394 : Index := Scalar.indexCast v266
  let c2688 : Index := 2688#32
  ![0, v394.toNat, 2688]
def k0_off106 (k0_t2 : Fin k0_t2_loop.trips) : Fin 3 → Nat :=
  let c0_169 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v400 : Index := Scalar.indexCast v266
  let c2816 : Index := 2816#32
  ![0, v400.toNat, 2816]
def k0_off107 (k0_t2 : Fin k0_t2_loop.trips) : Fin 3 → Nat :=
  let c0_170 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v406 : Index := Scalar.indexCast v266
  let c2944 : Index := 2944#32
  ![0, v406.toNat, 2944]
def k0_off108 (k0_t2 : Fin k0_t2_loop.trips) : Fin 3 → Nat :=
  let c0_171 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v412 : Index := Scalar.indexCast v266
  let c3072 : Index := 3072#32
  ![0, v412.toNat, 3072]
def k0_off109 (k0_t2 : Fin k0_t2_loop.trips) : Fin 3 → Nat :=
  let c0_172 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v418 : Index := Scalar.indexCast v266
  let c3200 : Index := 3200#32
  ![0, v418.toNat, 3200]
def k0_off110 (k0_t2 : Fin k0_t2_loop.trips) : Fin 3 → Nat :=
  let c0_173 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v424 : Index := Scalar.indexCast v266
  let c3328 : Index := 3328#32
  ![0, v424.toNat, 3328]
def k0_off111 (k0_t2 : Fin k0_t2_loop.trips) : Fin 3 → Nat :=
  let c0_174 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v430 : Index := Scalar.indexCast v266
  let c3456 : Index := 3456#32
  ![0, v430.toNat, 3456]
def k0_off112 (k0_t2 : Fin k0_t2_loop.trips) : Fin 3 → Nat :=
  let c0_175 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v436 : Index := Scalar.indexCast v266
  let c3584 : Index := 3584#32
  ![0, v436.toNat, 3584]
def k0_off113 (k0_t2 : Fin k0_t2_loop.trips) : Fin 3 → Nat :=
  let c0_176 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v442 : Index := Scalar.indexCast v266
  let c3712 : Index := 3712#32
  ![0, v442.toNat, 3712]
def k0_off114 (k0_t2 : Fin k0_t2_loop.trips) : Fin 3 → Nat :=
  let c0_177 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v448 : Index := Scalar.indexCast v266
  let c3840 : Index := 3840#32
  ![0, v448.toNat, 3840]
def k0_off115 (k0_t2 : Fin k0_t2_loop.trips) : Fin 3 → Nat :=
  let c0_178 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v454 : Index := Scalar.indexCast v266
  let c3968 : Index := 3968#32
  ![0, v454.toNat, 3968]
def k0_off116 (k0_t2 : Fin k0_t2_loop.trips) : Fin 3 → Nat :=
  let c0_179 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v460 : Index := Scalar.indexCast v266
  let c4096 : Index := 4096#32
  ![0, v460.toNat, 4096]
def k0_off117 (k0_t2 : Fin k0_t2_loop.trips) : Fin 3 → Nat :=
  let c0_180 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v466 : Index := Scalar.indexCast v266
  let c4224 : Index := 4224#32
  ![0, v466.toNat, 4224]
def k0_off118 (k0_t2 : Fin k0_t2_loop.trips) : Fin 3 → Nat :=
  let c0_181 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v472 : Index := Scalar.indexCast v266
  let c4352 : Index := 4352#32
  ![0, v472.toNat, 4352]
def k0_off119 (k0_t2 : Fin k0_t2_loop.trips) : Fin 3 → Nat :=
  let c0_182 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v478 : Index := Scalar.indexCast v266
  let c4480 : Index := 4480#32
  ![0, v478.toNat, 4480]
def k0_off120 (k0_t2 : Fin k0_t2_loop.trips) : Fin 3 → Nat :=
  let c0_183 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v484 : Index := Scalar.indexCast v266
  let c4608 : Index := 4608#32
  ![0, v484.toNat, 4608]
def k0_off121 (k0_t2 : Fin k0_t2_loop.trips) : Fin 3 → Nat :=
  let c0_184 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v490 : Index := Scalar.indexCast v266
  let c4736 : Index := 4736#32
  ![0, v490.toNat, 4736]
def k0_off122 (k0_t2 : Fin k0_t2_loop.trips) : Fin 3 → Nat :=
  let c0_185 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v496 : Index := Scalar.indexCast v266
  let c4864 : Index := 4864#32
  ![0, v496.toNat, 4864]
def k0_off123 (k0_t2 : Fin k0_t2_loop.trips) : Fin 3 → Nat :=
  let c0_186 : Index := 0#32
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v502 : Index := Scalar.indexCast v266
  let c4992 : Index := 4992#32
  ![0, v502.toNat, 4992]
def k0_off124 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1255 : Index := Scalar.indexCast v266
  let c0_403 : Index := 0#32
  ![v1255.toNat, 0]
def k0_off125 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1288 : Index := Scalar.indexCast v266
  let c0_412 : Index := 0#32
  ![v1288.toNat, 0]
def k0_off126 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1320 : Index := Scalar.indexCast v266
  let c128_421 : Index := 128#32
  ![v1320.toNat, 128]
def k0_off127 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1352 : Index := Scalar.indexCast v266
  let c256_430 : Index := 256#32
  ![v1352.toNat, 256]
def k0_off128 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1384 : Index := Scalar.indexCast v266
  let c384_439 : Index := 384#32
  ![v1384.toNat, 384]
def k0_off129 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1416 : Index := Scalar.indexCast v266
  let c512_448 : Index := 512#32
  ![v1416.toNat, 512]
def k0_off130 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1448 : Index := Scalar.indexCast v266
  let c640_457 : Index := 640#32
  ![v1448.toNat, 640]
def k0_off131 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1480 : Index := Scalar.indexCast v266
  let c768_466 : Index := 768#32
  ![v1480.toNat, 768]
def k0_off132 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1512 : Index := Scalar.indexCast v266
  let c896_475 : Index := 896#32
  ![v1512.toNat, 896]
def k0_off133 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1544 : Index := Scalar.indexCast v266
  let c1024_484 : Index := 1024#32
  ![v1544.toNat, 1024]
def k0_off134 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1576 : Index := Scalar.indexCast v266
  let c1152_493 : Index := 1152#32
  ![v1576.toNat, 1152]
def k0_off135 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1608 : Index := Scalar.indexCast v266
  let c1280_502 : Index := 1280#32
  ![v1608.toNat, 1280]
def k0_off136 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1640 : Index := Scalar.indexCast v266
  let c1408_511 : Index := 1408#32
  ![v1640.toNat, 1408]
def k0_off137 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1672 : Index := Scalar.indexCast v266
  let c1536_520 : Index := 1536#32
  ![v1672.toNat, 1536]
def k0_off138 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1704 : Index := Scalar.indexCast v266
  let c1664_529 : Index := 1664#32
  ![v1704.toNat, 1664]
def k0_off139 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1736 : Index := Scalar.indexCast v266
  let c1792_538 : Index := 1792#32
  ![v1736.toNat, 1792]
def k0_off140 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1768 : Index := Scalar.indexCast v266
  let c1920_547 : Index := 1920#32
  ![v1768.toNat, 1920]
def k0_off141 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1800 : Index := Scalar.indexCast v266
  let c2048_556 : Index := 2048#32
  ![v1800.toNat, 2048]
def k0_off142 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1832 : Index := Scalar.indexCast v266
  let c2176_565 : Index := 2176#32
  ![v1832.toNat, 2176]
def k0_off143 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1864 : Index := Scalar.indexCast v266
  let c2304_574 : Index := 2304#32
  ![v1864.toNat, 2304]
def k0_off144 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1896 : Index := Scalar.indexCast v266
  let c2432_583 : Index := 2432#32
  ![v1896.toNat, 2432]
def k0_off145 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1928 : Index := Scalar.indexCast v266
  let c2560_592 : Index := 2560#32
  ![v1928.toNat, 2560]
def k0_off146 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1960 : Index := Scalar.indexCast v266
  let c2688_601 : Index := 2688#32
  ![v1960.toNat, 2688]
def k0_off147 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v1992 : Index := Scalar.indexCast v266
  let c2816_610 : Index := 2816#32
  ![v1992.toNat, 2816]
def k0_off148 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2024 : Index := Scalar.indexCast v266
  let c2944_619 : Index := 2944#32
  ![v2024.toNat, 2944]
def k0_off149 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2056 : Index := Scalar.indexCast v266
  let c3072_628 : Index := 3072#32
  ![v2056.toNat, 3072]
def k0_off150 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2088 : Index := Scalar.indexCast v266
  let c3200_637 : Index := 3200#32
  ![v2088.toNat, 3200]
def k0_off151 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2120 : Index := Scalar.indexCast v266
  let c3328_646 : Index := 3328#32
  ![v2120.toNat, 3328]
def k0_off152 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2152 : Index := Scalar.indexCast v266
  let c3456_655 : Index := 3456#32
  ![v2152.toNat, 3456]
def k0_off153 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2184 : Index := Scalar.indexCast v266
  let c3584_664 : Index := 3584#32
  ![v2184.toNat, 3584]
def k0_off154 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2216 : Index := Scalar.indexCast v266
  let c3712_673 : Index := 3712#32
  ![v2216.toNat, 3712]
def k0_off155 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2248 : Index := Scalar.indexCast v266
  let c3840_682 : Index := 3840#32
  ![v2248.toNat, 3840]
def k0_off156 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2280 : Index := Scalar.indexCast v266
  let c3968_691 : Index := 3968#32
  ![v2280.toNat, 3968]
def k0_off157 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2312 : Index := Scalar.indexCast v266
  let c4096_700 : Index := 4096#32
  ![v2312.toNat, 4096]
def k0_off158 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2344 : Index := Scalar.indexCast v266
  let c4224_709 : Index := 4224#32
  ![v2344.toNat, 4224]
def k0_off159 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2376 : Index := Scalar.indexCast v266
  let c4352_718 : Index := 4352#32
  ![v2376.toNat, 4352]
def k0_off160 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2408 : Index := Scalar.indexCast v266
  let c4480_727 : Index := 4480#32
  ![v2408.toNat, 4480]
def k0_off161 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2440 : Index := Scalar.indexCast v266
  let c4608_736 : Index := 4608#32
  ![v2440.toNat, 4608]
def k0_off162 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2472 : Index := Scalar.indexCast v266
  let c4736_745 : Index := 4736#32
  ![v2472.toNat, 4736]
def k0_off163 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2504 : Index := Scalar.indexCast v266
  let c4864_754 : Index := 4864#32
  ![v2504.toNat, 4864]
def k0_off164 (k0_t2 : Fin k0_t2_loop.trips) : Fin 2 → Nat :=
  let c0_i32_137 : BitVec 32 := 0#32
  let c0_i32_25 : BitVec 32 := 0#32
  let c1_i32_26 : BitVec 32 := 1#32
  let arg17 : BitVec 32 := Scf.iv c0_i32_25 c1_i32_26 k0_t2
  let c1_i32_136 : BitVec 32 := 1#32
  let v263 : BitVec 32 := Scalar.muli arg17 c1_i32_136
  let v264 : BitVec 32 := Scalar.addi c0_i32_137 v263
  let c32_i32 : BitVec 32 := 32#32
  let v265 : BitVec 32 := Scalar.muli v264 c32_i32
  let v266 : BitVec 32 := v265
  let v2536 : Index := Scalar.indexCast v266
  let c4992_763 : Index := 4992#32
  ![v2536.toNat, 4992]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c16_i32_14 : BitVec 32 := 16#32
  let v31 : BitVec 32 := Scalar.divsi v30 c16_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c16_i32_14 c0_i32_17
  let v38 : BitVec 32 := Scalar.extui v37
  let c0_i32_18 : BitVec 32 := 0#32
  let v39 : BitVec 1 := Scalar.cmpi .slt c16_i32_14 c0_i32_18
  let v40 : BitVec 32 := Scalar.extui v39
  let v41 : BitVec 32 := Scalar.subi v38 v40
  let v42 : BitVec 1 := Scalar.cmpi .ne v36 v41
  let v43 : BitVec 32 := Scalar.remsi v30 c16_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c16_i32_21 : BitVec 32 := 16#32
  let c0_i32_22 : BitVec 32 := 0#32
  let v48 : BitVec 1 := Scalar.cmpi .eq c16_i32_21 c0_i32_22
  let c1_i32_23 : BitVec 32 := 1#32
  let v49 : BitVec 32 := Scalar.select v48 c1_i32_23 c16_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  let c0_i32_29 : BitVec 32 := 0#32
  ![v18.toNat, c0_i32_27.toNat, v57.toNat, c0_i32_28.toNat]

def cc0_transform_7 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_8 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_9 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_10 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c63_i32_10 : BitVec 32 := 63#32
  let v28 : BitVec 32 := Scalar.minsi arg0 c63_i32_10
  let c16_i32_11 : BitVec 32 := 16#32
  let v29 : BitVec 32 := Scalar.divsi v28 c16_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c16_i32_11 c0_i32_14
  let v36 : BitVec 32 := Scalar.extui v35
  let c0_i32_15 : BitVec 32 := 0#32
  let v37 : BitVec 1 := Scalar.cmpi .slt c16_i32_11 c0_i32_15
  let v38 : BitVec 32 := Scalar.extui v37
  let v39 : BitVec 32 := Scalar.subi v36 v38
  let v40 : BitVec 1 := Scalar.cmpi .ne v34 v39
  let v41 : BitVec 32 := Scalar.remsi v28 c16_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c16_i32_18 : BitVec 32 := 16#32
  let c0_i32_19 : BitVec 32 := 0#32
  let v46 : BitVec 1 := Scalar.cmpi .eq c16_i32_18 c0_i32_19
  let c1_i32_20 : BitVec 32 := 1#32
  let v47 : BitVec 32 := Scalar.select v46 c1_i32_20 c16_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v17.toNat, c0_i32_24.toNat, v55.toNat]

abbrev stage0_0 : Fin 1 → Memref sig .tc .vmem S4x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5120x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x10x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x40x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_n" => some ((1 / 5120 : ℝ) : EReal)
  | "ln_2" => some ((Real.log 2 : ℝ) : EReal)
  | _ => none
-- ==== ReferenceIdeal.lean ====
abbrev S4x4096x5120 : Shape := ⟨3, ![4, 4096, 5120]⟩
abbrev S5120 : Shape := ⟨1, ![5120]⟩
abbrev S5120x1792 : Shape := ⟨2, ![5120, 1792]⟩
abbrev S1792 : Shape := ⟨1, ![1792]⟩
abbrev S4x4096 : Shape := ⟨2, ![4, 4096]⟩
abbrev S64 : Shape := ⟨1, ![64]⟩
abbrev S_ : Shape := ⟨0, ![]⟩
abbrev S16384x5120 : Shape := ⟨2, ![16384, 5120]⟩
abbrev S1x5120 : Shape := ⟨2, ![1, 5120]⟩
abbrev S1x1792 : Shape := ⟨2, ![1, 1792]⟩
abbrev S1x64 : Shape := ⟨2, ![1, 64]⟩
abbrev S4x10x4096x128 : Shape := ⟨4, ![4, 10, 4096, 128]⟩
abbrev S4x4096x2x128 : Shape := ⟨4, ![4, 4096, 2, 128]⟩
abbrev S4x40x4096 : Shape := ⟨3, ![4, 40, 4096]⟩
abbrev S16384 : Shape := ⟨1, ![16384]⟩
abbrev S16384x1 : Shape := ⟨2, ![16384, 1]⟩
abbrev S16384x40x128 : Shape := ⟨3, ![16384, 40, 128]⟩
abbrev S16384x40 : Shape := ⟨2, ![16384, 40]⟩
abbrev S16384x40x1 : Shape := ⟨3, ![16384, 40, 1]⟩
abbrev S16384x1792 : Shape := ⟨2, ![16384, 1792]⟩
abbrev S16384x64 : Shape := ⟨2, ![16384, 64]⟩
abbrev S16384x1x64 : Shape := ⟨3, ![16384, 1, 64]⟩
abbrev S16384x14x128 : Shape := ⟨3, ![16384, 14, 128]⟩
abbrev S16384x12x64 : Shape := ⟨3, ![16384, 12, 64]⟩
abbrev S16384x12x128 : Shape := ⟨3, ![16384, 12, 128]⟩
abbrev S16384x10x128 : Shape := ⟨3, ![16384, 10, 128]⟩
abbrev S4x4096x10x128 : Shape := ⟨4, ![4, 4096, 10, 128]⟩
abbrev S16384x2x128 : Shape := ⟨3, ![16384, 2, 128]⟩
abbrev S4x4096x40 : Shape := ⟨3, ![4, 4096, 40]⟩

abbrev nBuf : Space → Nat
  | .hbm => 26
  | .vmem => 11
  | .smem => 0
  | _ => 0

abbrev bufTy : (tb : Table) → Fin (tcTables nBuf tb) → BufTy
  | .hbm, ⟨0, _⟩ => ⟨S4x4096x5120, .bf16⟩
  | .hbm, ⟨1, _⟩ => ⟨S5120, .bf16⟩
  | .hbm, ⟨2, _⟩ => ⟨S5120x1792, .fp8e4m3⟩
  | .hbm, ⟨3, _⟩ => ⟨S1792, .f32⟩
  | .hbm, ⟨4, _⟩ => ⟨S4x4096, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S16384x5120, .bf16⟩
  | .hbm, ⟨17, _⟩ => ⟨S5120, .f32⟩
  | .hbm, ⟨18, _⟩ => ⟨S1x5120, .f32⟩
  | .hbm, ⟨19, _⟩ => ⟨S1x1792, .f32⟩
  | .hbm, ⟨20, _⟩ => ⟨S1x64, .f32⟩
  | .hbm, ⟨21, _⟩ => ⟨S4x10x4096x128, .bf16⟩
  | .hbm, ⟨22, _⟩ => ⟨S4x4096x2x128, .bf16⟩
  | .hbm, ⟨23, _⟩ => ⟨S4x4096x2x128, .bf16⟩
  | .hbm, ⟨24, _⟩ => ⟨S4x4096x5120, .fp8e4m3⟩
  | .hbm, ⟨25, _⟩ => ⟨S4x40x4096, .f32⟩
  | .local _ .vmem, ⟨0, _⟩ => ⟨S16384x5120, .bf16⟩
  | .local _ .vmem, ⟨1, _⟩ => ⟨S1x5120, .f32⟩
  | .local _ .vmem, ⟨2, _⟩ => ⟨S5120x1792, .fp8e4m3⟩
  | .local _ .vmem, ⟨3, _⟩ => ⟨S1x1792, .f32⟩
  | .local _ .vmem, ⟨4, _⟩ => ⟨S4x4096, .i32⟩
  | .local _ .vmem, ⟨5, _⟩ => ⟨S1x64, .f32⟩
  | .local _ .vmem, ⟨6, _⟩ => ⟨S4x10x4096x128, .bf16⟩
  | .local _ .vmem, ⟨7, _⟩ => ⟨S4x4096x2x128, .bf16⟩
  | .local _ .vmem, ⟨8, _⟩ => ⟨S4x4096x2x128, .bf16⟩
  | .local _ .vmem, ⟨9, _⟩ => ⟨S4x4096x5120, .fp8e4m3⟩
  | .local _ .vmem, ⟨10, _⟩ => ⟨S4x40x4096, .f32⟩
  | _, _ => ⟨S4x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S16384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x10x4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4096x2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096x2x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4096x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x40x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Spec.lean ====
/- What a row of the input becomes, as a function of that row alone: normalised, scaled, coded, projected, turned. -/
module

public import Idealize.ShloMosaic.Lib.Pointwise

@[expose] public section

noncomputable section

namespace Cert.Proof.Spec

open Idealize.ShloMosaic

variable (x w : Fin 5120 → EReal)

/-- The row's mean square. -/
def ms : EReal := Ideal.div (∑ k, x k * x k) (Ideal.ofBits .f32 0x45A00000#32)

/-- One over its root mean square. -/
def rs : EReal := Ideal.rsqrt (ms x + Ideal.ofBits .f32 0x3727C5AC#32)

/-- The row, normalised and weighted. -/
def h (k : Fin 5120) : EReal := x k * rs x * w k

/-- Column `l` of group `g`. -/
def col (g : Fin 40) (l : Fin 128) : Fin 5120 := ⟨g.val * 128 + l.val, by omega⟩

/-- The largest magnitude in group `g`. -/
def am (g : Fin 40) : EReal := Finset.fold max (Ideal.ofBits .f32 0xFF800000#32) (fun l => FloatOps.absf (F := Ideal) (φ := .f32) (h x w (col g l))) Finset.univ

/-- The scale's exponent, of the largest magnitude `a`. -/
def ex (a : EReal) : EReal :=
  if a * Ideal.ofBits .f32 0x3B124925#32 < Ideal.ofBits .f32 0x00800000#32 then 0
  else Ideal.liftRound Int.floor (Ideal.div (Ideal.log (a * Ideal.ofBits .f32 0x3B124925#32)) ((Real.log 2 : ℝ) : EReal)) + 1

/-- The scale of group `g`. -/
def sc (g : Fin 40) : EReal := FloatOps.exp2 (F := Ideal) (φ := .f32) (ex (am x w g))

/-- Its inverse. -/
def iv (g : Fin 40) : EReal := FloatOps.exp2 (F := Ideal) (φ := .f32) (0 - ex (am x w g))

/-- The group a column is in. -/
def grp (k : Fin 5120) : Fin 40 := ⟨k.val / 128, by omega⟩

/-- The code of a column. -/
def cd (k : Fin 5120) : EReal := min (Ideal.ofBits .f32 0x43E00000#32) (max (Ideal.ofBits .f32 0xC3E00000#32) (h x w k * iv x w (grp k)))

/-- The value the code stands for. -/
def xs (k : Fin 5120) : EReal := cd x w k * sc x w (grp k)

/-- The row's product with one column of weights, scaled. -/
def y (M : Fin 5120 → EReal) (s : EReal) : EReal := (∑ k, xs x w k * M k) * s

/-- A head `Y` turned by the angles `A`, each of which turns lane `l` against lane `64 + l`. -/
def rot (Y : Fin 128 → EReal) (A : Fin 64 → EReal) (l : Fin 128) : EReal :=
  if hl : l.val < 64 then Y l * Ideal.cos (A ⟨l.val, hl⟩) - Y ⟨64 + l.val, by omega⟩ * Ideal.sin (A ⟨l.val, hl⟩)
  else Y l * Ideal.cos (A ⟨l.val - 64, by omega⟩) + Y ⟨l.val - 64, by omega⟩ * Ideal.sin (A ⟨l.val - 64, by omega⟩)

end Cert.Proof.Spec

end
-- ==== Proof.LoopCanon.lean ====
/- What a loop leaves whose every trip stores pieces of one function: that function, wherever some trip's piece lies. -/
module

public import Idealize.ShloMosaic.Lib.Pointwise
public import Idealize.ShloMosaic.Lib.Pipeline.CanonAppend
public import Idealize.ShloMosaic.Lib.WholeRead

@[expose] public section

namespace Cert.Proof.LoopCanon

open Idealize.ShloMosaic

variable {Val : EltTy → Type} [∀ e, Nonempty (Val e)] {S : Shape} {e : EltTy}

/-- Where a unit rectangle puts an index. -/
theorem emb_unit_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

/-- Pieces accumulated trip by trip, newest first, all of them pieces of `G`, leave `G` wherever one of them lies. -/
theorem canon_loop {T : ℕ} (P : ℕ → List (View.Piece Val S e)) (Q : Fin T → List (View.Piece Val S e)) (h0 : P 0 = [])
    (hs : ∀ k : Fin T, P (k.val + 1) = Q k ++ P k.val) (G : S.Idx → Val e)
    (hQ : ∀ k, ∀ p ∈ Q k, ∀ x : p.1.shape.Idx, p.2 x = G (p.1.emb x)) (y : S.Idx) (hc : ∃ k, ∃ p ∈ Q k, y ∈ p.1.set) :
    View.canon (P T) y = G y := by
  have hin : ∀ n, n ≤ T → ∀ p ∈ P n, ∀ x : p.1.shape.Idx, p.2 x = G (p.1.emb x) := by
    intro n
    induction n with
    | zero => intro _ p hp; rw [h0] at hp; exact absurd hp List.not_mem_nil
    | succ n ih =>
      intro hn p hp
      rw [hs ⟨n, hn⟩] at hp
      rcases List.mem_append.mp hp with h | h
      · exact hQ _ p h
      · exact ih (by omega) p h
  have hcov : ∀ n, n ≤ T → ∀ k : Fin T, k.val < n → ∀ p ∈ Q k, p ∈ P n := by
    intro n
    induction n with
    | zero => intro _ k hk; exact absurd hk (by omega)
    | succ n ih =>
      intro hn k hk p hp
      rw [hs ⟨n, hn⟩]
      by_cases he : k.val = n
      · exact List.mem_append.mpr (.inl (by rwa [show (⟨n, hn⟩ : Fin T) = k from Fin.ext he.symm]))
      · exact List.mem_append.mpr (.inr (ih (by omega) k (by omega) p hp))
  obtain ⟨k, p, hp, hy⟩ := hc
  have := View.canon_append_of_pieces G [] (P T) (hin T le_rfl) y ⟨p, hcov T le_rfl k k.isLt p hp, hy⟩
  rwa [List.append_nil] at this

end Cert.Proof.LoopCanon
-- ==== Proof.Proj.lean ====
/- The projection of one block of rows and the turning of its heads, as the kernel computes them. -/
module

public import proofs.«01_k».proof.Proof.Gen.KernelIdeal.Skeleton
public import proofs.«01_k».proof.Proof.Spec
public import proofs.«01_k».proof.Proof.LoopCanon
public import Idealize.ShloMosaic.Lib.VecWindow

@[expose] public section

set_option maxRecDepth 16384

noncomputable section

namespace Cert.Proof.Proj

open Idealize.ShloMosaic Cert.KernelIdeal Cert.KernelIdeal.Gen

section Defs

variable {F : FTy → Type} [FloatOps F] [Named F]

/-- The rows times one tile of 256 columns, scaled. -/
def mm (xs : Vec F S256x5120 .bf16) (w : Vec F S5120x256 .fp8e4m3) (s : Vec F S1x256 .f32) : FVec F S256x256 .f32 :=
  mulf (matmul dot_S256x5120_S5120x256_S256x256_1_0_0_1_n_n none xs w (constant S256x256 .f32 0x00000000#32))
    (broadcastTo S256x256 (shapeCast S1x256 s shapeCasts_S1x256_S1x256) broadcasts_S1x256_S256x256)

/-- The tile's first head. -/
def fst (M : FVec F S256x256 .f32) : FVec F S256x128 .f32 := extractStridedSlice S256x128 ![0, 0] M slices_S256x256_o0_0_S256x128

/-- The tile's second head. -/
def snd (M : FVec F S256x256 .f32) : FVec F S256x128 .f32 := extractStridedSlice S256x128 ![0, 128] M slices_S256x256_o0_128_S256x128

/-- A head turned by the tables `C` and `S`. -/
def turn (C S : Vec F S256x128 .f32) (Y : FVec F S256x128 .f32) : FVec F S256x128 .f32 :=
  addf (mulf Y C) (mulf (dynamicRotate 1 64#32 none Y rotates_S256x128_d1) S)

/-- A query head as stored. -/
def q4 (Y : FVec F S256x128 .f32) : FVec F S1x1x256x128 .bf16 := shapeCast S1x1x256x128 (truncf .bf16 Y bitsLt_bf16_f32) shapeCasts_S256x128_S1x1x256x128

/-- Two heads as stored, side by side. -/
def pair (Y Z : FVec F S256x128 .f32) : FVec F S1x256x2x128 .bf16 :=
  shapeCast S1x256x2x128 (truncf .bf16 (concatenate S256x2x128 1 [⟨S256x1x128, shapeCast S256x1x128 Y shapeCasts_S256x128_S256x1x128⟩, ⟨S256x1x128, shapeCast S256x1x128 Z shapeCasts_S256x128_S256x1x128⟩]
    concatenates_S256x1x128_S256x1x128_S256x2x128_d1) bitsLt_bf16_f32) shapeCasts_S256x2x128_S1x256x2x128

/-- The ten query heads as stored, newest first. -/
def qP (C S : Vec F S256x128 .f32) (M : ℕ → FVec F S256x256 .f32) : List (View.Piece (Elt F) S1x10x256x128 .bf16) :=
  [⟨Rect.unit ![0, 9, 0, 0] S1x1x256x128.size inb_S1x10x256x128_S1x1x256x128_0_9_0_0, q4 (turn C S (snd (M 4)))⟩,
   ⟨Rect.unit ![0, 8, 0, 0] S1x1x256x128.size inb_S1x10x256x128_S1x1x256x128_0_8_0_0, q4 (turn C S (fst (M 4)))⟩,
   ⟨Rect.unit ![0, 7, 0, 0] S1x1x256x128.size inb_S1x10x256x128_S1x1x256x128_0_7_0_0, q4 (turn C S (snd (M 3)))⟩,
   ⟨Rect.unit ![0, 6, 0, 0] S1x1x256x128.size inb_S1x10x256x128_S1x1x256x128_0_6_0_0, q4 (turn C S (fst (M 3)))⟩,
   ⟨Rect.unit ![0, 5, 0, 0] S1x1x256x128.size inb_S1x10x256x128_S1x1x256x128_0_5_0_0, q4 (turn C S (snd (M 2)))⟩,
   ⟨Rect.unit ![0, 4, 0, 0] S1x1x256x128.size inb_S1x10x256x128_S1x1x256x128_0_4_0_0, q4 (turn C S (fst (M 2)))⟩,
   ⟨Rect.unit ![0, 3, 0, 0] S1x1x256x128.size inb_S1x10x256x128_S1x1x256x128_0_3_0_0, q4 (turn C S (snd (M 1)))⟩,
   ⟨Rect.unit ![0, 2, 0, 0] S1x1x256x128.size inb_S1x10x256x128_S1x1x256x128_0_2_0_0, q4 (turn C S (fst (M 1)))⟩,
   ⟨Rect.unit ![0, 1, 0, 0] S1x1x256x128.size inb_S1x10x256x128_S1x1x256x128_0_1_0_0, q4 (turn C S (snd (M 0)))⟩,
   ⟨Rect.unit ![0, 0, 0, 0] S1x1x256x128.size inb_S1x10x256x128_S1x1x256x128_0_0_0_0, q4 (turn C S (fst (M 0)))⟩]

/-- The two key heads as stored. -/
def kP (C S : Vec F S256x128 .f32) (M : ℕ → FVec F S256x256 .f32) : List (View.Piece (Elt F) S1x256x2x128 .bf16) :=
  [⟨Rect.unit ![0, 0, 0, 0] S1x256x2x128.size inb_S1x256x2x128_S1x256x2x128_0_0_0_0, pair (turn C S (fst (M 5))) (turn C S (snd (M 5)))⟩]

/-- The two value heads as stored. -/
def vP (M : ℕ → FVec F S256x256 .f32) : List (View.Piece (Elt F) S1x256x2x128 .bf16) :=
  [⟨Rect.unit ![0, 0, 0, 0] S1x256x2x128.size inb_S1x256x2x128_S1x256x2x128_0_0_0_0, pair (fst (M 6)) (snd (M 6))⟩]

/-- The cosines of the block's angles, from its positions and the frequencies, newest half first. -/
def cP (p : Vec F S1x256 .i32) (f : Vec F S1x128 .f32) : List (View.Piece (Elt F) S256x128 .f32) :=
  [⟨Rect.unit ![128, 0] S128x128.size inb_S256x128_S128x128_128_0, k0_pay414 (k0_pay404 f) k0_pay405 (k0_pay406 p)⟩,
   ⟨Rect.unit ![0, 0] S128x128.size inb_S256x128_S128x128_0_0, k0_pay410 (k0_pay409 p f)⟩]

/-- The signed sines, likewise. -/
def sP (p : Vec F S1x256 .i32) (f : Vec F S1x128 .f32) : List (View.Piece (Elt F) S256x128 .f32) :=
  [⟨Rect.unit ![128, 0] S128x128.size inb_S256x128_S128x128_128_0, k0_pay415 (k0_pay404 f) k0_pay405 (k0_pay406 p)⟩,
   ⟨Rect.unit ![0, 0] S128x128.size inb_S256x128_S128x128_0_0, k0_pay411 k0_pay405 (k0_pay407 p f) (k0_pay408 p f)⟩]

/-- A tile of columns lies in the weights. -/
theorem wInb (t : ℕ) : ∀ a, (![0, 256 * (t % 7)] : Fin 2 → ℕ) a + S5120x256.size a ≤ S5120x1792.size a := by
  intro a; fin_cases a <;> simp <;> omega

/-- A tile of columns lies in the weights' scales. -/
theorem sInb (t : ℕ) : ∀ a, (![0, 256 * (t % 7)] : Fin 2 → ℕ) a + S1x256.size a ≤ S1x1792.size a := by
  intro a; fin_cases a <;> simp <;> omega

/-- The block's product with tile `t`, from the loaded rows `X`. -/
def M (X : Vec F S256x5120 .bf16) (arg4 : Memref sig .tc .vmem S5120x1792 .fp8e4m3) (arg5 : Memref sig .tc .vmem S1x1792 .f32)
    (X4 : BufTy.Contents (Elt F) arg4.view.ty) (X5 : BufTy.Contents (Elt F) arg5.view.ty) (t : ℕ) : FVec F S256x256 .f32 :=
  mm X (View.readAt (Elt F) arg4.view (Rect.unit (s := S5120x1792) ![0, 256 * (t % 7)] S5120x256.size (wInb t)).toLoadRect X4)
    (View.readAt (Elt F) arg5.view (Rect.unit (s := S1x1792) ![0, 256 * (t % 7)] S1x256.size (sInb t)).toLoadRect X5)

end Defs

section Values

variable (xs : Vec Ideal S256x5120 .bf16) (w : Vec Ideal S5120x256 .fp8e4m3) (s : Vec Ideal S1x256 .f32) (A : FVec Ideal S256x256 .f32)
  (Y Z C S : FVec Ideal S256x128 .f32) (p : Vec Ideal S1x256 .i32) (f : Vec Ideal S1x128 .f32)

/-- A tile of the product: a row against a column, scaled. -/
theorem mm_apply (r : Fin 256) (c : Fin 256) : mm xs w s (ix2 r c) = (∑ k, xs (ix2 r k) * w (ix2 k c)) * s (ix2 0 c) := by pointwise [mm]

/-- The first head of a tile. -/
theorem fst_apply (r : Fin 256) (l : Fin 128) : fst A (ix2 r l) = A (ix2 r ⟨l.val, by omega⟩) := by pointwise [fst]

/-- The second head of a tile. -/
theorem snd_apply (r : Fin 256) (l : Fin 128) : snd A (ix2 r l) = A (ix2 r ⟨128 + l.val, by omega⟩) := by pointwise [snd]

/-- A head laid out as a block of the query result. -/
theorem q4_apply (r : Fin 256) (l : Fin 128) : q4 Y (ix4 0 0 r l) = Y (ix2 r l) := by pointwise [q4]

/-- A turned head: lane `l` against the lane sixty-four on. -/
theorem turn_apply (r : Fin 256) (l : Fin 128) : turn C S Y (ix2 r l) = Y (ix2 r l) * C (ix2 r l) + Y (ix2 r ⟨(l.val + 64) % 128, by omega⟩) * S (ix2 r l) := by
  have e : (⟨(l.val + 64) % 128, by omega⟩ : Fin 128) = ⟨(l.val + 128 - 64) % 128, by omega⟩ := Fin.ext (by simp only; omega)
  rw [e]
  pointwise [turn]

/-- Two heads stacked. -/
theorem pair_apply (r : Fin 256) (h : Fin 2) (l : Fin 128) : pair Y Z (ix4 0 r h l) = if h.val < 1 then Y (ix2 r l) else Z (ix2 r l) := by
  pointwise [pair]
  split <;> rfl

/-- Turning by tables of cosines and signed sines turns each row. -/
theorem turn_rot (r : Fin 256) (y : Fin 128 → EReal) (a : Fin 64 → EReal) (hY : ∀ l, Y (ix2 r l) = y l)
    (hC : ∀ l : Fin 128, C (ix2 r l) = Ideal.cos (a ⟨l.val % 64, by omega⟩))
    (hS : ∀ l : Fin 128, S (ix2 r l) = if l.val < 64 then 0 - Ideal.sin (a ⟨l.val % 64, by omega⟩) else Ideal.sin (a ⟨l.val % 64, by omega⟩)) (l : Fin 128) :
    turn C S Y (ix2 r l) = Spec.rot y a l := by
  rw [turn_apply, hY, hY, hC, hS, Spec.rot]
  by_cases h : l.val < 64
  · rw [if_pos h, dif_pos h]
    have e1 : (⟨l.val % 64, by omega⟩ : Fin 64) = ⟨l.val, h⟩ := Fin.ext (by simp only; omega)
    have e2 : (⟨(l.val + 64) % 128, by omega⟩ : Fin 128) = ⟨64 + l.val, by omega⟩ := Fin.ext (by simp only; omega)
    rw [e1, e2, zero_sub, mul_neg, ← sub_eq_add_neg]
  · rw [if_neg h, dif_neg h]
    have e1 : (⟨l.val % 64, by omega⟩ : Fin 64) = ⟨l.val - 64, by omega⟩ := Fin.ext (by simp only; omega)
    have e2 : (⟨(l.val + 64) % 128, by omega⟩ : Fin 128) = ⟨l.val - 64, by omega⟩ := Fin.ext (by simp only; omega)
    rw [e1, e2]

/-- The lane test of the tables. -/
theorem upper (l : Fin 128) {α : Type} (x y : α) : Scalar.select (IntOp.cmpi .sge (BitVec.ofNat 32 l.val) 64#32) x y = if l.val < 64 then y else x := by
  have h : ∀ l : Fin 128, IntOp.cmpi .sge (BitVec.ofNat 32 l.val) 64#32 = if l.val < 64 then 0#1 else 1#1 := by decide
  rw [h]
  split <;> rfl

/-- The first half block's table: a cosine in the lower lanes, a sine in the upper. -/
theorem t407 (r l : Fin 128) : k0_pay407 p f (ix2 r l) = if l.val < 64 then Ideal.cos (FloatOps.sitofp (F := Ideal) FTy.f32 (p (ix2 0 ⟨r.val, by omega⟩)) * f (ix2 0 l))
    else Ideal.sin (FloatOps.sitofp (F := Ideal) FTy.f32 (p (ix2 0 ⟨r.val, by omega⟩)) * f (ix2 0 l)) := by
  rw [← upper]
  pointwise [k0_pay407, k0_pay405, k0_pay406, k0_pay404]

/-- The second half block's table, likewise. -/
theorem t412 (r l : Fin 128) : k0_pay412 (k0_pay404 f) k0_pay405 (k0_pay406 p) (ix2 r l) =
    if l.val < 64 then Ideal.cos (FloatOps.sitofp (F := Ideal) FTy.f32 (p (ix2 0 ⟨128 + r.val, by omega⟩)) * f (ix2 0 l))
    else Ideal.sin (FloatOps.sitofp (F := Ideal) FTy.f32 (p (ix2 0 ⟨128 + r.val, by omega⟩)) * f (ix2 0 l)) := by
  rw [← upper]
  pointwise [k0_pay412, k0_pay405, k0_pay406, k0_pay404]

/-- The first half block's cosines, laid twice. -/
theorem t410 (r l : Fin 128) : k0_pay410 (k0_pay409 p f) (ix2 r l) = if l.val < 64 then k0_pay407 p f (ix2 r l) else k0_pay407 p f (ix2 r ⟨(l.val + 128 - 64) % 128, by omega⟩) := by
  rw [← upper]
  pointwise [k0_pay410, k0_pay409, k0_pay408, k0_pay405]

/-- The first half block's sines, negated in the lower lanes. -/
theorem t411 (r l : Fin 128) : k0_pay411 k0_pay405 (k0_pay407 p f) (k0_pay408 p f) (ix2 r l) =
    if l.val < 64 then 0 - k0_pay407 p f (ix2 r ⟨(l.val + 128 - 64) % 128, by omega⟩) else k0_pay407 p f (ix2 r l) := by
  rw [← upper]
  pointwise [k0_pay411, k0_pay408, k0_pay405]

/-- The second half block's cosines, laid twice. -/
theorem t414 (a : FVec Ideal S1x128 .f32) (b : FVec Ideal S1x256 .f32) (r l : Fin 128) : k0_pay414 a k0_pay405 b (ix2 r l) =
    if l.val < 64 then k0_pay412 a k0_pay405 b (ix2 r l) else k0_pay412 a k0_pay405 b (ix2 r ⟨(l.val + 128 - 64) % 128, by omega⟩) := by
  rw [← upper, k0_pay414, k0_pay413]
  generalize k0_pay412 a k0_pay405 b = T
  pointwise [k0_pay405]

/-- The second half block's sines, negated in the lower lanes. -/
theorem t415 (a : FVec Ideal S1x128 .f32) (b : FVec Ideal S1x256 .f32) (r l : Fin 128) : k0_pay415 a k0_pay405 b (ix2 r l) =
    if l.val < 64 then 0 - k0_pay412 a k0_pay405 b (ix2 r ⟨(l.val + 128 - 64) % 128, by omega⟩) else k0_pay412 a k0_pay405 b (ix2 r l) := by
  rw [← upper, k0_pay415, k0_pay413]
  generalize k0_pay412 a k0_pay405 b = T
  pointwise [k0_pay405]

/-- An index of a half of the tables. -/
theorem ex2 (z : S128x128.Idx) : ∃ (r l : Fin 128), z = ix2 r l := ⟨z 0, z 1, eq_ix2 z⟩

/-- An index of half a table, in the table. -/
theorem emb_half (o : ℕ) (ho : o = 0 ∨ o = 128) (inb) (r l : Fin 128) :
    (Rect.unit (s := S256x128) ![o, 0] S128x128.size inb).emb (ix2 r l) = ix2 ⟨o + r.val, by omega⟩ l := by
  funext a; apply Fin.ext
  refine (LoopCanon.emb_unit_val (s := S256x128) _ _ _ _ a).trans ?_
  fin_cases a <;> simp [ix2]

/-- Two halves cover the tables. -/
theorem cover_half (Q0 Q1 : FVec Ideal S128x128 .f32) (r : Fin 256) (l : Fin 128) :
    ∃ p ∈ ([⟨Rect.unit ![128, 0] S128x128.size inb_S256x128_S128x128_128_0, Q1⟩, ⟨Rect.unit ![0, 0] S128x128.size inb_S256x128_S128x128_0_0, Q0⟩] :
      List (View.Piece (Elt Ideal) S256x128 .f32)), (ix2 r l : S256x128.Idx) ∈ p.1.set := by
  by_cases h : r.val < 128
  · refine ⟨_, List.mem_cons_of_mem _ (List.mem_singleton.mpr rfl), ?_⟩
    rw [show (ix2 r l : S256x128.Idx) = _ from (emb_half 0 (.inl rfl) inb_S256x128_S128x128_0_0 ⟨r.val, h⟩ l |>.trans (by
      congr 1; apply Fin.ext; simp only; omega)).symm]
    exact LoadRect.idx_mem _ _
  · refine ⟨_, List.mem_cons_self, ?_⟩
    rw [show (ix2 r l : S256x128.Idx) = _ from (emb_half 128 (.inr rfl) inb_S256x128_S128x128_128_0 ⟨r.val - 128, by omega⟩ l |>.trans (by
      congr 1; apply Fin.ext; simp only; omega)).symm]
    exact LoadRect.idx_mem _ _

/-- What two halves leave. -/
theorem canon_half (Q0 Q1 : FVec Ideal S128x128 .f32) (G : Fin 256 → Fin 128 → EReal)
    (h0 : ∀ r l : Fin 128, Q0 (ix2 r l) = G ⟨r.val, by omega⟩ l) (h1 : ∀ r l : Fin 128, Q1 (ix2 r l) = G ⟨128 + r.val, by omega⟩ l) (r : Fin 256) (l : Fin 128) :
    View.canon ([⟨Rect.unit ![128, 0] S128x128.size inb_S256x128_S128x128_128_0, Q1⟩, ⟨Rect.unit ![0, 0] S128x128.size inb_S256x128_S128x128_0_0, Q0⟩] :
      List (View.Piece (Elt Ideal) S256x128 .f32)) (ix2 r l) = G r l := by
  refine View.canon_append_of_pieces (fun z : S256x128.Idx => G (z 0) (z 1)) [] _ (fun p hp => ?_) _ (cover_half Q0 Q1 r l)
  rcases List.mem_cons.mp hp with rfl | hp
  · intro z
    obtain ⟨a, b, rfl⟩ := ex2 z
    refine (h1 a b).trans (congrArg (fun z : S256x128.Idx => G (z 0) (z 1)) (emb_half 128 (.inr rfl) inb_S256x128_S128x128_128_0 a b)).symm
  · rw [List.mem_singleton] at hp
    subst hp
    intro z
    obtain ⟨a, b, rfl⟩ := ex2 z
    refine (h0 a b).trans ((congrArg (fun z : S256x128.Idx => G (z 0) (z 1)) (emb_half 0 (.inl rfl) inb_S256x128_S128x128_0_0 a b)).trans ?_).symm
    exact congrArg (fun q => G q b) (Fin.ext (Nat.zero_add _))

section Tables

variable (φ : Fin 64 → EReal) (hf : ∀ l : Fin 128, f (ix2 0 l) = φ ⟨l.val % 64, by omega⟩)

include hf

/-- The table of cosines. -/
theorem cos_canon (r : Fin 256) (l : Fin 128) : View.canon (cP p f) (ix2 r l) =
    Ideal.cos (FloatOps.sitofp (F := Ideal) FTy.f32 (p (ix2 0 r)) * φ ⟨l.val % 64, by omega⟩) := by
  refine canon_half _ _ (fun r l => Ideal.cos (FloatOps.sitofp (F := Ideal) FTy.f32 (p (ix2 0 r)) * φ ⟨l.val % 64, by omega⟩)) (fun r l => ?_) (fun r l => ?_) r l
  · rw [t410, t407, t407, hf, hf]
    by_cases h : l.val < 64
    · rw [if_pos h, if_pos h]
    · rw [if_neg h, if_pos (by simp only; omega)]
      simp only [show (l.val + 128 - 64) % 128 % 64 = l.val % 64 by omega]
  · rw [t414, t412, t412, hf, hf]
    by_cases h : l.val < 64
    · rw [if_pos h, if_pos h]
    · rw [if_neg h, if_pos (by simp only; omega)]
      simp only [show (l.val + 128 - 64) % 128 % 64 = l.val % 64 by omega]

/-- The table of signed sines. -/
theorem sin_canon (r : Fin 256) (l : Fin 128) : View.canon (sP p f) (ix2 r l) =
    if l.val < 64 then 0 - Ideal.sin (FloatOps.sitofp (F := Ideal) FTy.f32 (p (ix2 0 r)) * φ ⟨l.val % 64, by omega⟩)
    else Ideal.sin (FloatOps.sitofp (F := Ideal) FTy.f32 (p (ix2 0 r)) * φ ⟨l.val % 64, by omega⟩) := by
  refine canon_half _ _ (fun r l => if l.val < 64 then 0 - Ideal.sin (FloatOps.sitofp (F := Ideal) FTy.f32 (p (ix2 0 r)) * φ ⟨l.val % 64, by omega⟩)
    else Ideal.sin (FloatOps.sitofp (F := Ideal) FTy.f32 (p (ix2 0 r)) * φ ⟨l.val % 64, by omega⟩)) (fun r l => ?_) (fun r l => ?_) r l
  · rw [t411, t407, t407, hf, hf]
    by_cases h : l.val < 64
    · rw [if_pos h, if_pos h, if_neg (by simp only; omega)]
      simp only [show (l.val + 128 - 64) % 128 % 64 = l.val % 64 by omega]
    · rw [if_neg h, if_neg h, if_neg h]
  · rw [t415, t412, t412, hf, hf]
    by_cases h : l.val < 64
    · rw [if_pos h, if_pos h, if_neg (by simp only; omega)]
      simp only [show (l.val + 128 - 64) % 128 % 64 = l.val % 64 by omega]
    · rw [if_neg h, if_neg h, if_neg h]

end Tables

end Values

section Heads

variable (X : Vec Ideal S256x5120 .bf16) (arg4 : Memref sig .tc .vmem S5120x1792 .fp8e4m3) (harg4 : arg4.IsWhole) (arg5 : Memref sig .tc .vmem S1x1792 .f32) (harg5 : arg5.IsWhole)
  (w : Vec Ideal S5120x1792 .fp8e4m3) (s : Vec Ideal S1x1792 .f32)

/-- Tile `t` of the product, column by column. -/
theorem M_apply (t : Fin 7) (r : Fin 256) (c : Fin 256) : M X arg4 arg5 (harg4.unread w) (harg5.unread s) t.val (ix2 r c) =
    (∑ k, X (ix2 r k) * w (ix2 k ⟨256 * t.val + c.val, by omega⟩)) * s (ix2 0 ⟨256 * t.val + c.val, by omega⟩) := by
  rw [M, mm_apply]
  have hw : ∀ k : Fin 5120, View.readAt (Elt Ideal) arg4.view (Rect.unit (s := S5120x1792) ![0, 256 * (t.val % 7)] S5120x256.size (wInb t.val)).toLoadRect (harg4.unread w) (ix2 k c) =
      w (ix2 k ⟨256 * t.val + c.val, by omega⟩) := fun k => (harg4.readAt_unread w _ _).trans (congrArg w (by
    funext a; apply Fin.ext
    refine (LoopCanon.emb_unit_val (s := S5120x1792) _ _ _ _ a).trans ?_
    have := t.isLt
    fin_cases a <;> simp [ix2] <;> omega))
  have hs : View.readAt (Elt Ideal) arg5.view (Rect.unit (s := S1x1792) ![0, 256 * (t.val % 7)] S1x256.size (sInb t.val)).toLoadRect (harg5.unread s) (ix2 0 c) =
      s (ix2 0 ⟨256 * t.val + c.val, by omega⟩) := (harg5.readAt_unread s _ _).trans (congrArg s (by
    funext a; apply Fin.ext
    refine (LoopCanon.emb_unit_val (s := S1x1792) _ _ _ _ a).trans ?_
    have := t.isLt
    fin_cases a <;> simp [ix2] <;> omega))
  rw [hs]
  simp only [hw]

/-- Head `h` of the block's product. -/
def head (h : ℕ) : FVec Ideal S256x128 .f32 :=
  if h % 2 = 0 then fst (M X arg4 arg5 (harg4.unread w) (harg5.unread s) (h / 2)) else snd (M X arg4 arg5 (harg4.unread w) (harg5.unread s) (h / 2))

/-- Head `h` of the product, lane by lane. -/
theorem head_apply (h : Fin 14) (r : Fin 256) (l : Fin 128) : head X arg4 harg4 arg5 harg5 w s h.val (ix2 r l) =
    (∑ k, X (ix2 r k) * w (ix2 k ⟨h.val * 128 + l.val, by omega⟩)) * s (ix2 0 ⟨h.val * 128 + l.val, by omega⟩) := by
  rw [head]
  split
  · rw [fst_apply, M_apply X arg4 harg4 arg5 harg5 w s ⟨h.val / 2, by omega⟩]
    simp only [show 256 * (h.val / 2) + l.val = h.val * 128 + l.val by omega]
  · rw [snd_apply, M_apply X arg4 harg4 arg5 harg5 w s ⟨h.val / 2, by omega⟩]
    simp only [show 256 * (h.val / 2) + (128 + l.val) = h.val * 128 + l.val by omega]

/-- An index of one head's block, in the query block. -/
theorem emb_q (h : Fin 10) (inb) (r : Fin 256) (l : Fin 128) :
    (Rect.unit (s := S1x10x256x128) ![0, h.val, 0, 0] S1x1x256x128.size inb).emb (ix4 0 0 r l) = ix4 0 h r l := by
  funext a; apply Fin.ext
  refine (LoopCanon.emb_unit_val (s := S1x10x256x128) _ _ _ _ a).trans ?_
  fin_cases a <;> simp [ix4]

/-- An index of one head's block is a row and a lane. -/
theorem ex4q (z : S1x1x256x128.Idx) : ∃ (r : Fin 256) (l : Fin 128), z = ix4 0 0 r l :=
  ⟨z 2, z 3, (eq_ix4 z).trans (by rw [Fin.eq_zero (z 0 : Fin 1), Fin.eq_zero (z 1 : Fin 1)])⟩

/-- Every piece stored in the query block is a turned head. -/
theorem qP_mem (C S : Vec Ideal S256x128 .f32) (p) (hp : p ∈ qP C S (M X arg4 arg5 (harg4.unread w) (harg5.unread s))) :
    ∃ (h : Fin 10) (inb : _), p = ⟨Rect.unit ![0, h.val, 0, 0] S1x1x256x128.size inb, q4 (turn C S (head X arg4 harg4 arg5 harg5 w s h.val))⟩ := by
  simp only [qP, List.mem_cons, List.not_mem_nil, or_false] at hp
  rcases hp with rfl | rfl | rfl | rfl | rfl | rfl | rfl | rfl | rfl | rfl
  exacts [⟨9, _, rfl⟩, ⟨8, _, rfl⟩, ⟨7, _, rfl⟩, ⟨6, _, rfl⟩, ⟨5, _, rfl⟩, ⟨4, _, rfl⟩, ⟨3, _, rfl⟩, ⟨2, _, rfl⟩, ⟨1, _, rfl⟩, ⟨0, _, rfl⟩]

/-- Every query head is stored. -/
theorem qP_has (C S : Vec Ideal S256x128 .f32) (h : Fin 10) :
    ∃ (inb : _), (⟨Rect.unit ![0, h.val, 0, 0] S1x1x256x128.size inb, q4 (turn C S (head X arg4 harg4 arg5 harg5 w s h.val))⟩ : View.Piece (Elt Ideal) S1x10x256x128 .bf16) ∈
      qP C S (M X arg4 arg5 (harg4.unread w) (harg5.unread s)) := by
  have he : ∀ n, n < 10 → ∀ a, (![0, n, 0, 0] : Fin 4 → ℕ) a + S1x1x256x128.size a ≤ S1x10x256x128.size a := by
    intro n hn a; fin_cases a <;> simp <;> omega
  refine ⟨he h.val h.isLt, ?_⟩
  simp only [qP, List.mem_cons]
  fin_cases h
  exacts [.inr (.inr (.inr (.inr (.inr (.inr (.inr (.inr (.inr (.inl rfl))))))))), .inr (.inr (.inr (.inr (.inr (.inr (.inr (.inr (.inl rfl)))))))),
    .inr (.inr (.inr (.inr (.inr (.inr (.inr (.inl rfl))))))), .inr (.inr (.inr (.inr (.inr (.inr (.inl rfl)))))), .inr (.inr (.inr (.inr (.inr (.inl rfl))))),
    .inr (.inr (.inr (.inr (.inl rfl)))), .inr (.inr (.inr (.inl rfl))), .inr (.inr (.inl rfl)), .inr (.inl rfl), .inl rfl]

/-- The query heads a block leaves. -/
theorem q_canon (C S : Vec Ideal S256x128 .f32) (h : Fin 10) (r : Fin 256) (l : Fin 128) :
    View.canon (qP C S (M X arg4 arg5 (harg4.unread w) (harg5.unread s))) (ix4 0 h r l) = turn C S (head X arg4 harg4 arg5 harg5 w s h.val) (ix2 r l) := by
  have := View.canon_append_of_pieces (fun z : S1x10x256x128.Idx => turn C S (head X arg4 harg4 arg5 harg5 w s (z 1).val) (ix2 (z 2) (z 3))) []
    (qP C S (M X arg4 arg5 (harg4.unread w) (harg5.unread s))) (fun p hp => ?_) (ix4 0 h r l) ?_
  · rwa [List.append_nil] at this
  · obtain ⟨h, inb, rfl⟩ := qP_mem X arg4 harg4 arg5 harg5 w s C S p hp
    intro z
    obtain ⟨a, b, rfl⟩ := ex4q z
    exact (q4_apply _ a b).trans (congrArg (fun z : S1x10x256x128.Idx => turn C S (head X arg4 harg4 arg5 harg5 w s (z 1).val) (ix2 (z 2) (z 3))) (emb_q h inb a b)).symm
  · obtain ⟨inb, hm⟩ := qP_has X arg4 harg4 arg5 harg5 w s C S h
    refine ⟨_, hm, ?_⟩
    rw [show (ix4 0 h r l : S1x10x256x128.Idx) = _ from (emb_q h inb r l).symm]
    exact LoadRect.idx_mem _ _

/-- The key and value blocks are stored whole. -/
theorem emb_k (inb) (z : S1x256x2x128.Idx) : (Rect.unit (s := S1x256x2x128) ![0, 0, 0, 0] S1x256x2x128.size inb).emb z = z := Rect.emb_unit_full inb z

/-- What one piece over the whole block leaves. -/
theorem canon_one (Q : FVec Ideal S1x256x2x128 .bf16) (z : S1x256x2x128.Idx) :
    View.canon ([⟨Rect.unit ![0, 0, 0, 0] S1x256x2x128.size inb_S1x256x2x128_S1x256x2x128_0_0_0_0, Q⟩] : List (View.Piece (Elt Ideal) S1x256x2x128 .bf16)) z = Q z := by
  refine View.canon_append_of_pieces (Val := Elt Ideal) (e := .bf16) Q [] _ (fun p hp => ?_) z ⟨_, List.mem_singleton.mpr rfl, ?_⟩
  · rw [List.mem_singleton] at hp
    subst hp
    intro z
    exact congrArg Q (emb_k inb_S1x256x2x128_S1x256x2x128_0_0_0_0 z).symm
  · rw [show z = _ from (emb_k inb_S1x256x2x128_S1x256x2x128_0_0_0_0 z).symm]
    exact LoadRect.idx_mem _ _

/-- The key heads a block leaves. -/
theorem k_canon (C S : Vec Ideal S256x128 .f32) (h : Fin 2) (r : Fin 256) (l : Fin 128) :
    View.canon (kP C S (M X arg4 arg5 (harg4.unread w) (harg5.unread s))) (ix4 0 r h l) = turn C S (head X arg4 harg4 arg5 harg5 w s (10 + h.val)) (ix2 r l) := by
  refine (canon_one _ _).trans ((pair_apply _ _ r h l).trans ?_)
  fin_cases h <;> rfl

/-- The value heads a block leaves. -/
theorem v_canon (h : Fin 2) (r : Fin 256) (l : Fin 128) :
    View.canon (vP (M X arg4 arg5 (harg4.unread w) (harg5.unread s))) (ix4 0 r h l) = head X arg4 harg4 arg5 harg5 w s (12 + h.val) (ix2 r l) := by
  refine (canon_one _ _).trans ((pair_apply _ _ r h l).trans ?_)
  fin_cases h <;> rfl

end Heads

/-- The angle of row `r` of block `b` of batch `a`. -/
def ang (x0 : Vec Ideal S4x4096 .i32) (a : Fin 4) (b : Fin 16) (φ : Fin 64 → EReal) (r : Fin 256) (l : Fin 64) : EReal :=
  FloatOps.sitofp (F := Ideal) FTy.f32 (x0 (ix2 a ⟨b.val * 256 + r.val, by omega⟩)) * φ l

/-- Head `h` of row `r`, from the dequantised rows `X`. -/
def hd (w : Vec Ideal S5120x1792 .fp8e4m3) (s : Vec Ideal S1x1792 .f32) (X : Vec Ideal S256x5120 .bf16) (r : Fin 256) (h : Fin 14) (l : Fin 128) : EReal :=
  (∑ k, X (ix2 r k) * w (ix2 k ⟨h.val * 128 + l.val, by omega⟩)) * s (ix2 0 ⟨h.val * 128 + l.val, by omega⟩)

end Cert.Proof.Proj

end
-- ==== Proof.Flip.lean ====
/- The scales of one block as stored: the rows' scales, written one row of the buffer each, are turned into columns half a block at a time. -/
module

public import proofs.«01_k».proof.Proof.Gen.KernelIdeal.Skeleton
public import proofs.«01_k».proof.Proof.LoopCanon
public import proofs.«01_k».proof.Proof.Proj
public import Idealize.ShloMosaic.Lib.VecWindow

@[expose] public section

set_option maxRecDepth 16384

noncomputable section

namespace Cert.Proof.Flip

open Idealize.ShloMosaic Cert.KernelIdeal Cert.KernelIdeal.Gen

section Defs

variable {F : FTy → Type} [FloatOps F] [Named F]

/-- Half a block's scales, turned. -/
def flip (T : Vec F S128x128 .f32) : FVec F S1x40x128 .f32 :=
  shapeCast S1x40x128 (extractStridedSlice S40x128 ![0, 0] (transpose S128x128 [1, 0] T transposes_S128x128_p1_0_S128x128) slices_S128x128_o0_0_S40x128) shapeCasts_S40x128_S1x40x128

/-- The block's scales as stored, the second half last. -/
def scP (arg16 : Memref sig .tc .vmem S256x128 .f32) (L : List (View.Piece (Elt F) S256x128 .f32)) : List (View.Piece (Elt F) S1x40x256 .f32) :=
  [⟨Rect.unit ![0, 0, 128] S1x40x128.size inb_S1x40x256_S1x40x128_0_0_128, flip (arg16.view.readCov L (Rect.unit (s := S256x128) ![128, 0] S128x128.size inb_S256x128_S128x128_128_0).toLoadRect)⟩,
   ⟨Rect.unit ![0, 0, 0] S1x40x128.size inb_S1x40x256_S1x40x128_0_0_0, flip (arg16.view.readCov L (Rect.unit (s := S256x128) ![0, 0] S128x128.size inb_S256x128_S128x128_0_0).toLoadRect)⟩]

end Defs

/-- A turned half block: group `g` of row `s`. -/
theorem flip_apply (T : Vec Ideal S128x128 .f32) (g : Fin 40) (s : Fin 128) : flip T (ix3 0 g s) = T (ix2 s ⟨g.val, by omega⟩) := by pointwise [flip]

/-- An index of a half block of scales, in the block. -/
theorem emb_scale (o : ℕ) (ho : o = 0 ∨ o = 128) (inb) (g : Fin 40) (s : Fin 128) :
    (Rect.unit (s := S1x40x256) ![0, 0, o] S1x40x128.size inb).emb (ix3 0 g s) = ix3 0 g ⟨o + s.val, by omega⟩ := by
  funext a; apply Fin.ext
  refine (LoopCanon.emb_unit_val (s := S1x40x256) _ _ _ _ a).trans ?_
  fin_cases a <;> simp [ix3]

/-- An index of a half block of scales is a group and a row. -/
theorem ex3 (z : S1x40x128.Idx) : ∃ (g : Fin 40) (s : Fin 128), z = ix3 0 g s :=
  ⟨z 1, z 2, (eq_ix3 z).trans (congrArg (fun a => ix3 a (z 1) (z 2)) (Fin.eq_zero (z 0)))⟩

/-- What the two stores leave, when the buffer of rows holds `G`. -/
theorem canon_scP (arg16 : Memref sig .tc .vmem S256x128 .f32) (L : List (View.Piece (Elt Ideal) S256x128 .f32)) (G : Fin 256 → Fin 40 → EReal)
    (hL : ∀ (s : Fin 256) (g : Fin 40), View.canon L (ix2 s ⟨g.val, by omega⟩) = G s g) (g : Fin 40) (s : Fin 256) :
    View.canon (scP arg16 L) (ix3 0 g s) = G s g := by
  have hcov : ∃ p ∈ scP arg16 L, (ix3 0 g s : S1x40x256.Idx) ∈ p.1.set := by
    by_cases h : s.val < 128
    · refine ⟨_, List.mem_cons_of_mem _ (List.mem_singleton.mpr rfl), ?_⟩
      rw [show (ix3 0 g s : S1x40x256.Idx) = _ from (emb_scale 0 (.inl rfl) inb_S1x40x256_S1x40x128_0_0_0 g ⟨s.val, h⟩ |>.trans (by
        congr 1; apply Fin.ext; simp only; omega)).symm]
      exact LoadRect.idx_mem _ _
    · refine ⟨_, List.mem_cons_self, ?_⟩
      rw [show (ix3 0 g s : S1x40x256.Idx) = _ from (emb_scale 128 (.inr rfl) inb_S1x40x256_S1x40x128_0_0_128 g ⟨s.val - 128, by omega⟩ |>.trans (by
        congr 1; apply Fin.ext; simp only; omega)).symm]
      exact LoadRect.idx_mem _ _
  have := View.canon_append_of_pieces (fun z : S1x40x256.Idx => G (z 2) (z 1)) [] (scP arg16 L) (fun p hp => ?_) (ix3 0 g s) hcov
  · rwa [List.append_nil] at this
  · rcases List.mem_cons.mp hp with rfl | hp
    · intro z
      obtain ⟨a, b, rfl⟩ := ex3 z
      refine (flip_apply (arg16.view.readCov L (Rect.unit (s := S256x128) ![128, 0] S128x128.size inb_S256x128_S128x128_128_0).toLoadRect) a b).trans ?_
      refine (congrFun (View.readCov_eq_canon' arg16.view L _) _).trans ?_
      refine ((congrArg (View.canon L) (Proj.emb_half 128 (.inr rfl) inb_S256x128_S128x128_128_0 b ⟨a.val, by omega⟩)).trans (hL _ a)).trans ?_
      exact (congrArg (fun z : S1x40x256.Idx => G (z 2) (z 1)) (emb_scale 128 (.inr rfl) inb_S1x40x256_S1x40x128_0_0_128 a b)).symm
    · rw [List.mem_singleton] at hp
      subst hp
      intro z
      obtain ⟨a, b, rfl⟩ := ex3 z
      refine (flip_apply (arg16.view.readCov L (Rect.unit (s := S256x128) ![0, 0] S128x128.size inb_S256x128_S128x128_0_0).toLoadRect) a b).trans ?_
      refine (congrFun (View.readCov_eq_canon' arg16.view L _) _).trans ?_
      refine ((congrArg (View.canon L) (Proj.emb_half 0 (.inl rfl) inb_S256x128_S128x128_0_0 b ⟨a.val, by omega⟩)).trans (hL _ a)).trans ?_
      exact (congrArg (fun z : S1x40x256.Idx => G (z 2) (z 1)) (emb_scale 0 (.inl rfl) inb_S1x40x256_S1x40x128_0_0_0 a b)).symm

end Cert.Proof.Flip

end
-- ==== Proof.Slab.lean ====
/- One slab of the quantiser, as the kernel computes it: thirty-two rows of a block, forty groups of 128 lanes each.
   Every definition takes the slab's loads, `X g` (the rows' group `g`) and `W g` (the norm weight's group `g`), and repeats the
   kernel's operations in the kernel's order. -/
module

public import proofs.«01_k».proof.Proof.Gen.KernelIdeal.Skeleton

@[expose] public section

set_option maxRecDepth 16384

noncomputable section

namespace Cert.Proof.Slab

open Idealize.ShloMosaic Cert.KernelIdeal Cert.KernelIdeal.Gen

variable {F : FTy → Type} [FloatOps F] [Named F]
variable (X : ℕ → Vec F S1x32x128 .bf16) (W : ℕ → Vec F S1x128 .f32)

/-- Group `g` of the rows, widened. -/
def ext (g : ℕ) : FVec F S32x128 .f32 := extf .f32 (shapeCast S32x128 (X g) shapeCasts_S1x32x128_S32x128) bitsLt_bf16_f32

/-- The zero vector the folds start from. -/
def zeroV : FVec F S32x128 .f32 := broadcast S32x128 (Scalar.ofBits .f32 0x00000000#32)

/-- The squares of the first `n` groups, added lane by lane. -/
def ssq : ℕ → FVec F S32x128 .f32
  | 0 => zeroV
  | n + 1 => addf (ssq n) (mulf (ext X n) (ext X n))

/-- One over the rows' root mean square, along every lane. -/
def rstd : FVec F S32x128 .f32 :=
  broadcastTo S32x128 (shapeCast S32x1 (rsqrt (addf (mulf (shapeCast S32x1 (multiReduction .add [1] S32 (ssq X 40) 0x00000000#32 reduces_S32x128_S32 (.inl rfl) rfl) shapeCasts_S32_S32x1)
    (broadcast S32x1 (Named.named κ "inv_n" 0x394CCCCD#32))) (broadcast S32x1 (Scalar.ofBits .f32 0x3727C5AC#32)))) shapeCasts_S32x1_S32x1) broadcasts_S32x1_S32x128

/-- Group `g` of the rows, normalised and weighted. -/
def norm (g : ℕ) : FVec F S32x128 .f32 :=
  mulf (mulf (ext X g) (rstd X)) (broadcastTo S32x128 (shapeCast S1x128 (shapeCast S1x128 (W g) shapeCasts_S1x128_S1x128) shapeCasts_S1x128_S1x128) broadcasts_S1x128_S32x128)

/-- The lane number. -/
def lane : IVec S32x128 32 := iota Kind.tc S32x128 32 [1] iota_S32x128_d1_w32

/-- The largest magnitude of each row in group `g`, along every lane. -/
def rowMax (g : ℕ) : FVec F S32x128 .f32 :=
  broadcastTo S32x128 (shapeCast S32x1 (shapeCast S32x1 (multiReduction .maximumf [1] S32 (absf (norm X W g)) 0xFF800000#32 reduces_S32x128_S32 (.inl rfl) rfl) shapeCasts_S32_S32x1) shapeCasts_S32x1_S32x1) broadcasts_S32x1_S32x128

/-- The first `n` groups' largest magnitudes, group `g`'s in lane `g`. -/
def amax : ℕ → FVec F S32x128 .f32
  | 0 => zeroV
  | n + 1 => select (cmpi .eq lane (broadcast S32x128 (BitVec.ofNat 32 n))) (rowMax X W n) (amax n)

/-- The largest magnitudes over the largest code. -/
def tV : FVec F S32x128 .f32 := mulf (amax X W 40) (broadcast S32x128 (Scalar.ofBits .f32 0x3B124925#32))

/-- The scales' exponents, group `g`'s in lane `g`. -/
def eV : FVec F S32x128 .f32 :=
  select (cmpf .olt (tV X W) (broadcast S32x128 (Scalar.ofBits .f32 0x00800000#32))) zeroV
    (addf (floor (divf (log (tV X W)) (broadcast S32x128 (Named.named κ "ln_2" 0x3F317218#32)))) (broadcast S32x128 (Scalar.ofBits .f32 0x3F800000#32)))

/-- The scales. -/
def scaleV : FVec F S32x128 .f32 := exp2 (eV X W)

/-- Their inverses. -/
def invV : FVec F S32x128 .f32 := exp2 (subf zeroV (eV X W))

/-- The scales in the narrow format. -/
def scaleB : FVec F S32x128 .bf16 := truncf .bf16 (scaleV X W) bitsLt_bf16_f32

/-- One lane of a slab may be sliced out. -/
theorem slices (g : ℕ) (hg : g < 40) : S32x128.Slices ![0, g] S32x1 :=
  ⟨rfl, fun a => by fin_cases a <;> simp <;> omega⟩

/-- The codes of group `g`. -/
def code (g : ℕ) (hg : g < 40) : FVec F S32x128 .fp8e4m3 :=
  truncf .fp8e4m3 (minimumf (broadcast S32x128 (Scalar.ofBits .f32 0x43E00000#32)) (maximumf (broadcast S32x128 (Scalar.ofBits .f32 0xC3E00000#32))
    (mulf (norm X W g) (broadcastTo S32x128 (shapeCast S32x1 (extractStridedSlice S32x1 ![0, g] (invV X W) (slices g hg)) shapeCasts_S32x1_S32x1) broadcasts_S32x1_S32x128)))) bitsLt_fp8e4m3_f32

/-- The codes of group `g` as they are stored. -/
def code3 (g : ℕ) (hg : g < 40) : FVec F S1x32x128 .fp8e4m3 := shapeCast S1x32x128 (code X W g hg) shapeCasts_S32x128_S1x32x128

/-- The dequantised rows of group `g`, as they are stored for the projection. -/
def xs (g : ℕ) (hg : g < 40) : FVec F S32x128 .bf16 :=
  shapeCast S32x128 (mulf (extf .bf16 (code X W g hg) bitsLt_fp8e4m3_bf16) (broadcastTo S32x128 (shapeCast S32x1 (extractStridedSlice S32x1 ![0, g] (scaleB X W) (slices g hg)) shapeCasts_S32x1_S32x1) broadcasts_S32x1_S32x128)) shapeCasts_S32x128_S32x128

/-- The scales as they are stored. -/
def scaleS : FVec F S32x128 .f32 := shapeCast S32x128 (scaleV X W) shapeCasts_S32x128_S32x128

end Cert.Proof.Slab

end
-- ==== Proof.Trip1.lean ====
/- One trip of the slab loop of the even grid points: the pieces it stores are the slab's codes, dequantised rows and scales. -/
module

public import proofs.«01_k».proof.Proof.Slab
public import proofs.«01_k».proof.Proof.Gen.KernelIdeal.Loops

@[expose] public section

set_option maxRecDepth 65536

noncomputable section

namespace Cert.Proof.Trip1

open Idealize.ShloMosaic Cert.KernelIdeal Cert.KernelIdeal.Gen

variable {F : FTy → Type} [FloatOps F] [Named F]

/-- Where the trip's group `g` lies in the block. -/
def off (k : Fin k0_t1_loop.trips) : ℕ → (Fin 3 → ℕ)
  | 0 => k0_off2 k
  | 1 => k0_off3 k
  | 2 => k0_off4 k
  | 3 => k0_off5 k
  | 4 => k0_off6 k
  | 5 => k0_off7 k
  | 6 => k0_off8 k
  | 7 => k0_off9 k
  | 8 => k0_off10 k
  | 9 => k0_off11 k
  | 10 => k0_off12 k
  | 11 => k0_off13 k
  | 12 => k0_off14 k
  | 13 => k0_off15 k
  | 14 => k0_off16 k
  | 15 => k0_off17 k
  | 16 => k0_off18 k
  | 17 => k0_off19 k
  | 18 => k0_off20 k
  | 19 => k0_off21 k
  | 20 => k0_off22 k
  | 21 => k0_off23 k
  | 22 => k0_off24 k
  | 23 => k0_off25 k
  | 24 => k0_off26 k
  | 25 => k0_off27 k
  | 26 => k0_off28 k
  | 27 => k0_off29 k
  | 28 => k0_off30 k
  | 29 => k0_off31 k
  | 30 => k0_off32 k
  | 31 => k0_off33 k
  | 32 => k0_off34 k
  | 33 => k0_off35 k
  | 34 => k0_off36 k
  | 35 => k0_off37 k
  | 36 => k0_off38 k
  | 37 => k0_off39 k
  | 38 => k0_off40 k
  | 39 => k0_off41 k
  | _ => ![0, 32 * k.val, 0]

/-- The same in closed form. -/
theorem off_eq (k : Fin k0_t1_loop.trips) : ∀ g, g < 40 → off k g = ![0, 32 * k.val, 128 * g] := by
  intro g hg
  interval_cases g
  · exact k0_off2_eq k
  · exact k0_off3_eq k
  · exact k0_off4_eq k
  · exact k0_off5_eq k
  · exact k0_off6_eq k
  · exact k0_off7_eq k
  · exact k0_off8_eq k
  · exact k0_off9_eq k
  · exact k0_off10_eq k
  · exact k0_off11_eq k
  · exact k0_off12_eq k
  · exact k0_off13_eq k
  · exact k0_off14_eq k
  · exact k0_off15_eq k
  · exact k0_off16_eq k
  · exact k0_off17_eq k
  · exact k0_off18_eq k
  · exact k0_off19_eq k
  · exact k0_off20_eq k
  · exact k0_off21_eq k
  · exact k0_off22_eq k
  · exact k0_off23_eq k
  · exact k0_off24_eq k
  · exact k0_off25_eq k
  · exact k0_off26_eq k
  · exact k0_off27_eq k
  · exact k0_off28_eq k
  · exact k0_off29_eq k
  · exact k0_off30_eq k
  · exact k0_off31_eq k
  · exact k0_off32_eq k
  · exact k0_off33_eq k
  · exact k0_off34_eq k
  · exact k0_off35_eq k
  · exact k0_off36_eq k
  · exact k0_off37_eq k
  · exact k0_off38_eq k
  · exact k0_off39_eq k
  · exact k0_off40_eq k
  · exact k0_off41_eq k

/-- The loop makes eight trips. -/
theorem trips8 : k0_t1_loop.trips = 8 := by decide +kernel

/-- Every group lies in the block. -/
theorem off_inb (k : Fin k0_t1_loop.trips) (g : ℕ) : ∀ a, off k g a + S1x32x128.size a ≤ S1x256x5120.size a := by
  have hk : k.val < 8 := trips8 ▸ k.isLt
  by_cases hg : g < 40
  · rw [off_eq k g hg]; intro a; fin_cases a <;> simp <;> omega
  · have : off k g = ![0, 32 * k.val, 0] := by
      obtain ⟨j, rfl⟩ : ∃ j, g = 40 + j := ⟨g - 40, by omega⟩
      unfold off
      split <;> first | omega | rfl
    rw [this]; intro a; fin_cases a <;> simp <;> omega

/-- Where the trip's group `g` lies among the dequantised rows. -/
def xoff (k : Fin k0_t1_loop.trips) : ℕ → (Fin 2 → ℕ)
  | 0 => k0_off43 k
  | 1 => k0_off44 k
  | 2 => k0_off45 k
  | 3 => k0_off46 k
  | 4 => k0_off47 k
  | 5 => k0_off48 k
  | 6 => k0_off49 k
  | 7 => k0_off50 k
  | 8 => k0_off51 k
  | 9 => k0_off52 k
  | 10 => k0_off53 k
  | 11 => k0_off54 k
  | 12 => k0_off55 k
  | 13 => k0_off56 k
  | 14 => k0_off57 k
  | 15 => k0_off58 k
  | 16 => k0_off59 k
  | 17 => k0_off60 k
  | 18 => k0_off61 k
  | 19 => k0_off62 k
  | 20 => k0_off63 k
  | 21 => k0_off64 k
  | 22 => k0_off65 k
  | 23 => k0_off66 k
  | 24 => k0_off67 k
  | 25 => k0_off68 k
  | 26 => k0_off69 k
  | 27 => k0_off70 k
  | 28 => k0_off71 k
  | 29 => k0_off72 k
  | 30 => k0_off73 k
  | 31 => k0_off74 k
  | 32 => k0_off75 k
  | 33 => k0_off76 k
  | 34 => k0_off77 k
  | 35 => k0_off78 k
  | 36 => k0_off79 k
  | 37 => k0_off80 k
  | 38 => k0_off81 k
  | 39 => k0_off82 k
  | _ => ![32 * k.val, 0]

/-- The same in closed form. -/
theorem xoff_eq (k : Fin k0_t1_loop.trips) : ∀ g, g < 40 → xoff k g = ![32 * k.val, 128 * g] := by
  intro g hg
  interval_cases g
  · exact k0_off43_eq k
  · exact k0_off44_eq k
  · exact k0_off45_eq k
  · exact k0_off46_eq k
  · exact k0_off47_eq k
  · exact k0_off48_eq k
  · exact k0_off49_eq k
  · exact k0_off50_eq k
  · exact k0_off51_eq k
  · exact k0_off52_eq k
  · exact k0_off53_eq k
  · exact k0_off54_eq k
  · exact k0_off55_eq k
  · exact k0_off56_eq k
  · exact k0_off57_eq k
  · exact k0_off58_eq k
  · exact k0_off59_eq k
  · exact k0_off60_eq k
  · exact k0_off61_eq k
  · exact k0_off62_eq k
  · exact k0_off63_eq k
  · exact k0_off64_eq k
  · exact k0_off65_eq k
  · exact k0_off66_eq k
  · exact k0_off67_eq k
  · exact k0_off68_eq k
  · exact k0_off69_eq k
  · exact k0_off70_eq k
  · exact k0_off71_eq k
  · exact k0_off72_eq k
  · exact k0_off73_eq k
  · exact k0_off74_eq k
  · exact k0_off75_eq k
  · exact k0_off76_eq k
  · exact k0_off77_eq k
  · exact k0_off78_eq k
  · exact k0_off79_eq k
  · exact k0_off80_eq k
  · exact k0_off81_eq k
  · exact k0_off82_eq k

/-- Every group lies among the rows. -/
theorem xoff_inb (k : Fin k0_t1_loop.trips) (g : ℕ) (hg : g < 40) : ∀ a, xoff k g a + S32x128.size a ≤ S256x5120.size a := by
  have hk : k.val < 8 := trips8 ▸ k.isLt
  rw [xoff_eq k g hg]; intro a; fin_cases a <;> simp <;> omega

/-- The trip's scales lie among the block's. -/
theorem soff_inb (k : Fin k0_t1_loop.trips) : ∀ a, k0_off42 k a + S32x128.size a ≤ S256x128.size a := by
  have hk : k.val < 8 := trips8 ▸ k.isLt
  rw [k0_off42_eq k]; intro a; fin_cases a <;> simp <;> omega

/-- Every group lies in the norm weight. -/
theorem wInb (g : ℕ) : ∀ a, (![0, 128 * (g % 40)] : Fin 2 → ℕ) a + S1x128.size a ≤ S1x5120.size a := by
  intro a; fin_cases a <;> simp <;> omega

variable (arg2 : Memref sig .tc .vmem S1x256x5120 .bf16) (arg3 : Memref sig .tc .vmem S1x5120 .f32)
  (X2 : BufTy.Contents (Elt F) arg2.view.ty) (X3 : BufTy.Contents (Elt F) arg3.view.ty) (k : Fin k0_t1_loop.trips)

/-- The trip's loads of the block. -/
def X (g : ℕ) : Vec F S1x32x128 .bf16 :=
  View.readAt (Elt F) arg2.view (Rect.unit (s := S1x256x5120) (off k g) S1x32x128.size (off_inb k g)).toLoadRect X2

/-- The trip's loads of the norm weight. -/
def W (g : ℕ) : Vec F S1x128 .f32 :=
  View.readAt (Elt F) arg3.view (Rect.unit (s := S1x5120) ![0, 128 * (g % 40)] S1x128.size (wInb g)).toLoadRect X3

/-- The first `n` groups' codes as stored, newest first. -/
def codesP : (n : ℕ) → n ≤ 40 → List (View.Piece (Elt F) S1x256x5120 .fp8e4m3)
  | 0, _ => []
  | n + 1, h => ⟨Rect.unit (off k n) S1x32x128.size (off_inb k n), Slab.code3 (X arg2 X2 k) (W arg3 X3) n (by omega)⟩ :: codesP n (by omega)

/-- The first `n` groups' dequantised rows as stored, newest first. -/
def xsP : (n : ℕ) → n ≤ 40 → List (View.Piece (Elt F) S256x5120 .bf16)
  | 0, _ => []
  | n + 1, h => ⟨Rect.unit (xoff k n) S32x128.size (xoff_inb k n (by omega)), Slab.xs (X arg2 X2 k) (W arg3 X3) n (by omega)⟩ :: xsP n (by omega)

/-- The scales as stored. -/
def scP : List (View.Piece (Elt F) S256x128 .f32) :=
  [⟨Rect.unit (k0_off42 k) S32x128.size (soff_inb k), Slab.scaleS (X arg2 X2 k) (W arg3 X3)⟩]

end Cert.Proof.Trip1

end
-- ==== Proof.Trip1Codes.lean ====
/- The codes a trip stores. -/
module

public import proofs.«01_k».proof.Proof.Trip1

@[expose] public section

set_option maxRecDepth 65536
set_option maxHeartbeats 0

noncomputable section

namespace Cert.Proof.Trip1

open Idealize.ShloMosaic Cert.KernelIdeal Cert.KernelIdeal.Gen

variable {F : FTy → Type} [FloatOps F] [Named F]

/-- The codes a trip stores. -/
theorem tripCodes (𝒱 : Variants) (c : Dev nD) (bd : Option 𝒱.V) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (k0_h2 : k0_cond2 i = 1#1) (v38 : FVec F S1x128 .f32) (v41 : IVec S128x128 1) (v42 : FVec F S1x256 .f32) (v51 : FVec F S128x128 .f32) (v52 : FVec F S128x128 .f32) (v53 : FVec F S128x128 .f32) (X2 : BufTy.Contents (Elt F) arg2.view.ty) (X3 : BufTy.Contents (Elt F) arg3.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 X2 X3 k).1 = codesP arg2 arg3 X2 X3 k 40 le_rfl := by
  unfold tripL_k0_t1 trip_k0_t1; exact id rfl

end Cert.Proof.Trip1

end
-- ==== Proof.Trip1Rows.lean ====
/- The dequantised rows a trip stores. -/
module

public import proofs.«01_k».proof.Proof.Trip1

@[expose] public section

set_option maxRecDepth 65536
set_option maxHeartbeats 0

noncomputable section

namespace Cert.Proof.Trip1

open Idealize.ShloMosaic Cert.KernelIdeal Cert.KernelIdeal.Gen

variable {F : FTy → Type} [FloatOps F] [Named F]

/-- The dequantised rows a trip stores. -/
theorem tripRows (𝒱 : Variants) (c : Dev nD) (bd : Option 𝒱.V) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (k0_h2 : k0_cond2 i = 1#1) (v38 : FVec F S1x128 .f32) (v41 : IVec S128x128 1) (v42 : FVec F S1x256 .f32) (v51 : FVec F S128x128 .f32) (v52 : FVec F S128x128 .f32) (v53 : FVec F S128x128 .f32) (X2 : BufTy.Contents (Elt F) arg2.view.ty) (X3 : BufTy.Contents (Elt F) arg3.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 X2 X3 k).2.1 = xsP arg2 arg3 X2 X3 k 40 le_rfl := by
  unfold tripL_k0_t1 trip_k0_t1; exact id rfl

end Cert.Proof.Trip1

end
-- ==== Proof.Trip1Scales.lean ====
/- The scales a trip stores. -/
module

public import proofs.«01_k».proof.Proof.Trip1

@[expose] public section

set_option maxRecDepth 65536
set_option maxHeartbeats 0

noncomputable section

namespace Cert.Proof.Trip1

open Idealize.ShloMosaic Cert.KernelIdeal Cert.KernelIdeal.Gen

variable {F : FTy → Type} [FloatOps F] [Named F]

/-- The scales a trip stores. -/
theorem tripScales (𝒱 : Variants) (c : Dev nD) (bd : Option 𝒱.V) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (k0_h2 : k0_cond2 i = 1#1) (v38 : FVec F S1x128 .f32) (v41 : IVec S128x128 1) (v42 : FVec F S1x256 .f32) (v51 : FVec F S128x128 .f32) (v52 : FVec F S128x128 .f32) (v53 : FVec F S128x128 .f32) (X2 : BufTy.Contents (Elt F) arg2.view.ty) (X3 : BufTy.Contents (Elt F) arg3.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 X2 X3 k).2.2 = scP arg2 arg3 X2 X3 k := by
  unfold tripL_k0_t1 trip_k0_t1; exact id rfl

end Cert.Proof.Trip1

end
-- ==== Proof.SlabValue.lean ====
/- The slab's operations over the extended reals: each row's results are those the row function gives. -/
module

public import proofs.«01_k».proof.Proof.Slab
public import proofs.«01_k».proof.Proof.Spec

@[expose] public section

set_option maxRecDepth 16384

noncomputable section

namespace Cert.Proof.Slab

open Idealize.ShloMosaic Cert.KernelIdeal Cert.KernelIdeal.Gen

variable (X : ℕ → Vec Ideal S1x32x128 .bf16) (W : ℕ → Vec Ideal S1x128 .f32)

/-- A group of activations, widened. -/
theorem ext_apply (g : ℕ) (r : Fin 32) (l : Fin 128) : ext X g (ix2 r l) = X g (ix3 0 r l) := by pointwise [ext]

/-- No groups: no squares. -/
theorem ssq_zero (r : Fin 32) (l : Fin 128) : ssq X 0 (ix2 r l) = 0 := by pointwise [ssq, zeroV]

/-- One group more: one square more in each lane. -/
theorem ssq_succ (n : ℕ) (r : Fin 32) (l : Fin 128) : ssq X (n + 1) (ix2 r l) = ssq X n (ix2 r l) + X n (ix3 0 r l) * X n (ix3 0 r l) := by
  pointwise [ssq, ext_apply]

/-- Each lane's sum of squares over the first `n` groups. -/
theorem ssq_apply (n : ℕ) (r : Fin 32) (l : Fin 128) : ssq X n (ix2 r l) = ∑ g ∈ Finset.range n, X g (ix3 0 r l) * X g (ix3 0 r l) := by
  induction n with
  | zero => rw [ssq_zero, Finset.sum_range_zero]
  | succ n ih => rw [ssq_succ, ih, Finset.sum_range_succ]

/-- The idealized constant that replaces the folded reciprocal of the row length. -/
theorem inv_n : (Named.named (F := Ideal) (φ := .f32) κ "inv_n" 0x394CCCCD#32 : EReal) = ((1 / 5120 : ℝ) : EReal) :=
  (IdealRules.named_const.ideal_named_scalar κ "inv_n" _ _ rfl).trans (by norm_num)

/-- The idealized constant that replaces the rounded logarithm of two. -/
theorem ln_2 : (Named.named (F := Ideal) (φ := .f32) κ "ln_2" 0x3F317218#32 : EReal) = ((Real.log 2 : ℝ) : EReal) :=
  IdealRules.named_const.ideal_named_scalar κ "ln_2" _ _ rfl

/-- The row length. -/
theorem len : Ideal.ofBits .f32 0x45A00000#32 = ((5120 : ℝ) : EReal) := by
  simp [Ideal.ofBits, Ideal.ieee, -EReal.coe_mul]; norm_num

/-- One over the root mean square, from the lanes' sums of squares. -/
theorem rstd_raw (r : Fin 32) (l : Fin 128) : rstd X (ix2 r l) =
    Ideal.rsqrt ((∑ x, ssq X 40 (ix2 r x)) * Named.named (F := Ideal) (φ := .f32) κ "inv_n" 0x394CCCCD#32 + Ideal.ofBits .f32 0x3727C5AC#32) := by
  pointwise [rstd]

section Row

variable (r : Fin 32) (x w : Fin 5120 → EReal)
  (hX : ∀ (g : Fin 40) (l : Fin 128), X g.val (ix3 0 r l) = x (Spec.col g l))
  (hW : ∀ (g : Fin 40) (l : Fin 128), W g.val (ix2 0 l) = w (Spec.col g l))

/-- A sum over the columns, group by group. -/
theorem sum_cols (f : Fin 5120 → EReal) : ∑ l : Fin 128, ∑ g : Fin 40, f (Spec.col g l) = ∑ k, f k := by
  rw [Finset.sum_comm, ← Fintype.sum_prod_type']
  exact Fintype.sum_equiv (finProdFinEquiv (m := 40) (n := 128)) _ _ fun p => congrArg f (Fin.ext (by
    simp only [Spec.col, finProdFinEquiv_apply_val]; omega))

include hX in
/-- One over the root mean square, as specified. -/
theorem rstd_apply (l : Fin 128) : rstd X (ix2 r l) = Spec.rs x := by
  rw [rstd_raw, inv_n, Spec.rs, Spec.ms, len, Ideal.div_coe (by norm_num)]
  refine congrArg (fun z => Ideal.rsqrt (z * _ + _)) ?_
  rw [← sum_cols (fun k => x k * x k)]
  refine Finset.sum_congr rfl fun l _ => ?_
  rw [ssq_apply, Finset.sum_range]
  exact Finset.sum_congr rfl fun g _ => by rw [hX]

/-- A normalised group, from the slab's values. -/
theorem norm_raw (g : ℕ) (l : Fin 128) : norm X W g (ix2 r l) = X g (ix3 0 r l) * rstd X (ix2 r l) * W g (ix2 0 l) := by
  pointwise [norm, ext_apply]

include hX hW in
/-- A normalised group, as specified. -/
theorem norm_apply (g : Fin 40) (l : Fin 128) : norm X W g.val (ix2 r l) = Spec.h x w (Spec.col g l) := by
  rw [norm_raw, hX, hW, rstd_apply X r x hX]; rfl

/-- A group's largest magnitude, as a fold over its lanes. -/
theorem rowMax_raw (g : ℕ) (l : Fin 128) : rowMax X W g (ix2 r l) = Finset.fold max (Ideal.ofBits .f32 0xFF800000#32) (fun x => FloatOps.absf (F := Ideal) (φ := .f32) (norm X W g (ix2 r x))) Finset.univ := by
  pointwise [rowMax]

include hX hW in
/-- A group's largest magnitude, as specified. -/
theorem rowMax_apply (g : Fin 40) (l : Fin 128) : rowMax X W g.val (ix2 r l) = Spec.am x w g := by
  rw [rowMax_raw, Spec.am]
  exact congrArg (fun f => Finset.fold max _ f _) (funext fun l => by rw [norm_apply X W r x w hX hW])

/-- Each group's largest magnitude is put in the lane of its number. -/
theorem amax_succ (g : ℕ) (l : Fin 128) : amax X W (g + 1) (ix2 r l) =
    Scalar.select (IntOp.cmpi .eq (BitVec.ofNat 32 l.val) (BitVec.ofNat 32 g)) (rowMax X W g (ix2 r l)) (amax X W g (ix2 r l)) := by
  pointwise [amax, lane]

include hX hW in
/-- After `n` groups, the lanes below `n` hold their groups' largest magnitudes. -/
theorem amax_apply (n : ℕ) (hn : n ≤ 40) (g : Fin 40) (hg : g.val < n) : amax X W n (ix2 r ⟨g.val, by omega⟩) = Spec.am x w g := by
  induction n with
  | zero => exact absurd hg (by omega)
  | succ n ih =>
    rw [amax_succ]
    by_cases h : g.val = n
    · subst h
      rw [rowMax_apply X W r x w hX hW]; simp [IntOp.cmpi, Scalar.select]
    · have hne : BitVec.ofNat 32 g.val ≠ BitVec.ofNat 32 n := fun he => h (by
        have := congrArg BitVec.toNat he
        simp only [BitVec.toNat_ofNat] at this
        omega)
      rw [ih (by omega) (by omega)]; rw [IntOp.cmpi]; simp only [beq_eq_false_iff_ne.mpr hne]; simp [Scalar.select, BitVec.ofBool]

/-- The exponents, from the largest magnitudes. -/
theorem eV_raw (l : Fin 128) : eV X W (ix2 r l) = Spec.ex (amax X W 40 (ix2 r l)) := by
  rw [Spec.ex, ← ln_2]
  pointwise [eV, tV, zeroV]

/-- The scales, from the exponents. -/
theorem scaleV_raw (l : Fin 128) : scaleV X W (ix2 r l) = FloatOps.exp2 (F := Ideal) (φ := .f32) (eV X W (ix2 r l)) := by pointwise [scaleV]

/-- The inverse scales, from the exponents. -/
theorem invV_raw (l : Fin 128) : invV X W (ix2 r l) = FloatOps.exp2 (F := Ideal) (φ := .f32) (0 - eV X W (ix2 r l)) := by pointwise [invV, zeroV]

include hX hW in
/-- The scales, as specified. -/
theorem scaleV_apply (g : Fin 40) : scaleV X W (ix2 r ⟨g.val, by omega⟩) = Spec.sc x w g := by
  rw [scaleV_raw, eV_raw, amax_apply X W r x w hX hW 40 le_rfl g g.isLt, Spec.sc]

include hX hW in
/-- The inverse scales, as specified. -/
theorem invV_apply (g : Fin 40) : invV X W (ix2 r ⟨g.val, by omega⟩) = Spec.iv x w g := by
  rw [invV_raw, eV_raw, amax_apply X W r x w hX hW 40 le_rfl g g.isLt, Spec.iv]

/-- The stored scales are the scales. -/
theorem scaleS_raw (l : Fin 128) : scaleS X W (ix2 r l) = scaleV X W (ix2 r l) := by pointwise [scaleS]

include hX hW in
/-- Lane `g` of the stored scales is group `g`'s scale. -/
theorem scaleS_apply (g : Fin 40) : scaleS X W (ix2 r ⟨g.val, by omega⟩) = Spec.sc x w g := by
  rw [scaleS_raw, scaleV_apply X W r x w hX hW]

/-- A column's group. -/
theorem grp_col (g : Fin 40) (l : Fin 128) : Spec.grp (Spec.col g l) = g := Fin.ext (by simp only [Spec.grp, Spec.col]; omega)

/-- A code, from the slab's values. -/
theorem code_raw (g : ℕ) (hg : g < 40) (l : Fin 128) : code X W g hg (ix2 r l) =
    min (Ideal.ofBits .f32 0x43E00000#32) (max (Ideal.ofBits .f32 0xC3E00000#32) (norm X W g (ix2 r l) * invV X W (ix2 r ⟨g, by omega⟩))) := by
  pointwise [code]

include hX hW in
/-- A code, as specified. -/
theorem code_apply (g : Fin 40) (l : Fin 128) : code X W g.val g.isLt (ix2 r l) = Spec.cd x w (Spec.col g l) := by
  rw [code_raw, norm_apply X W r x w hX hW, invV_apply X W r x w hX hW, Spec.cd, grp_col]

/-- The stored code is the code. -/
theorem code3_raw (g : ℕ) (hg : g < 40) (l : Fin 128) : code3 X W g hg (ix3 0 r l) = code X W g hg (ix2 r l) := by pointwise [code3]

include hX hW in
/-- The stored codes are the row's codes. -/
theorem code3_apply (g : Fin 40) (l : Fin 128) : code3 X W g.val g.isLt (ix3 0 r l) = Spec.cd x w (Spec.col g l) := by
  rw [code3_raw, code_apply X W r x w hX hW]

/-- A dequantised value: code times scale. -/
theorem xs_raw (g : ℕ) (hg : g < 40) (l : Fin 128) : xs X W g hg (ix2 r l) = code X W g hg (ix2 r l) * scaleV X W (ix2 r ⟨g, by omega⟩) := by
  pointwise [xs, scaleB]

include hX hW in
/-- The stored values are the row's codes times their scales. -/
theorem xs_apply (g : Fin 40) (l : Fin 128) : xs X W g.val g.isLt (ix2 r l) = Spec.xs x w (Spec.col g l) := by
  rw [xs_raw, code_apply X W r x w hX hW, scaleV_apply X W r x w hX hW, Spec.xs, grp_col]

end Row

end Cert.Proof.Slab

end
-- ==== Proof.Trip1Value.lean ====
/- The slab loop of the even grid points, over the extended reals: the codes, dequantised rows and scales it leaves are those of the block's rows. -/
module

public import proofs.«01_k».proof.Proof.Trip1Codes
public import proofs.«01_k».proof.Proof.Trip1Rows
public import proofs.«01_k».proof.Proof.Trip1Scales
public import proofs.«01_k».proof.Proof.SlabValue
public import proofs.«01_k».proof.Proof.LoopCanon

@[expose] public section

set_option maxRecDepth 65536

noncomputable section

namespace Cert.Proof.Trip1

open Idealize.ShloMosaic Cert.KernelIdeal Cert.KernelIdeal.Gen

/-- An index of a slab's group, by its row and lane. -/
theorem ex2 (z : S32x128.Idx) : ∃ (r : Fin 32) (l : Fin 128), z = ix2 r l := ⟨z 0, z 1, eq_ix2 z⟩

/-- An index of a slab is a row and a lane. -/
theorem ex3 (z : S1x32x128.Idx) : ∃ (r : Fin 32) (l : Fin 128), z = ix3 0 r l :=
  ⟨z 1, z 2, (eq_ix3 z).trans (congrArg (fun a => ix3 a (z 1) (z 2)) (Fin.eq_zero (z 0)))⟩

/-- A trip's code pieces are its forty groups'. -/
theorem mem_codesP {F : FTy → Type} [FloatOps F] [Named F] (arg2 : Memref sig .tc .vmem S1x256x5120 .bf16) (arg3 : Memref sig .tc .vmem S1x5120 .f32)
    (X2 : BufTy.Contents (Elt F) arg2.view.ty) (X3 : BufTy.Contents (Elt F) arg3.view.ty) (k : Fin k0_t1_loop.trips) (p) : ∀ n (h : n ≤ 40),
    p ∈ codesP arg2 arg3 X2 X3 k n h ↔ ∃ g, ∃ hg : g < n, p = ⟨Rect.unit (off k g) S1x32x128.size (off_inb k g), Slab.code3 (X arg2 X2 k) (W arg3 X3) g (by omega)⟩ := by
  intro n
  induction n with
  | zero => intro h; rw [codesP]; exact ⟨fun h => absurd h List.not_mem_nil, fun ⟨_, hg, _⟩ => absurd hg (by omega)⟩
  | succ n ih =>
    intro h
    rw [codesP, List.mem_cons, ih]
    exact ⟨fun h => h.elim (fun h => ⟨n, by omega, h⟩) fun ⟨g, hg, h⟩ => ⟨g, by omega, h⟩, fun ⟨g, hg, h⟩ => by
      by_cases he : g = n
      · subst he; exact .inl h
      · exact .inr ⟨g, by omega, h⟩⟩

/-- A trip's row pieces are its forty groups'. -/
theorem mem_xsP {F : FTy → Type} [FloatOps F] [Named F] (arg2 : Memref sig .tc .vmem S1x256x5120 .bf16) (arg3 : Memref sig .tc .vmem S1x5120 .f32)
    (X2 : BufTy.Contents (Elt F) arg2.view.ty) (X3 : BufTy.Contents (Elt F) arg3.view.ty) (k : Fin k0_t1_loop.trips) (p) : ∀ n (h : n ≤ 40),
    p ∈ xsP arg2 arg3 X2 X3 k n h ↔ ∃ g, ∃ hg : g < n, p = ⟨Rect.unit (xoff k g) S32x128.size (xoff_inb k g (by omega)), Slab.xs (X arg2 X2 k) (W arg3 X3) g (by omega)⟩ := by
  intro n
  induction n with
  | zero => intro h; rw [xsP]; exact ⟨fun h => absurd h List.not_mem_nil, fun ⟨_, hg, _⟩ => absurd hg (by omega)⟩
  | succ n ih =>
    intro h
    rw [xsP, List.mem_cons, ih]
    exact ⟨fun h => h.elim (fun h => ⟨n, by omega, h⟩) fun ⟨g, hg, h⟩ => ⟨g, by omega, h⟩, fun ⟨g, hg, h⟩ => by
      by_cases he : g = n
      · subst he; exact .inl h
      · exact .inr ⟨g, by omega, h⟩⟩

/-- Row `r` of a trip's slab, in the block. -/
def row (k : Fin k0_t1_loop.trips) (r : Fin 32) : Fin 256 := ⟨32 * k.val + r.val, by have hk : k.val < 8 := trips8 ▸ k.isLt; omega⟩

section Loads

variable (arg2 : Memref sig .tc .vmem S1x256x5120 .bf16) (harg2 : arg2.IsWhole) (arg3 : Memref sig .tc .vmem S1x5120 .f32) (harg3 : arg3.IsWhole)
  (x : Vec Ideal S1x256x5120 .bf16) (w : Vec Ideal S1x5120 .f32) (k : Fin k0_t1_loop.trips)

/-- Lane `l` of row `r` of a trip's group `g` is at that row and column of the code block. -/
theorem emb_off (g : Fin 40) (r : Fin 32) (l : Fin 128) :
    (Rect.unit (s := S1x256x5120) (off k g.val) S1x32x128.size (off_inb k g.val)).emb (ix3 0 r l) = ix3 0 (row k r) (Spec.col g l) := by
  funext a; apply Fin.ext
  refine (LoopCanon.emb_unit_val (s := S1x256x5120) _ _ _ _ a).trans ((congrArg (· + _) (congrFun (off_eq k g.val g.isLt) a)).trans ?_)
  fin_cases a <;> simp [row, Spec.col, ix3] <;> omega

/-- Lane `l` of row `r` of a trip's group `g` is at that row and column of the dequantised rows. -/
theorem emb_xoff (g : Fin 40) (r : Fin 32) (l : Fin 128) :
    (Rect.unit (s := S256x5120) (xoff k g.val) S32x128.size (xoff_inb k g.val g.isLt)).emb (ix2 r l) = ix2 (row k r) (Spec.col g l) := by
  funext a; apply Fin.ext
  refine (LoopCanon.emb_unit_val (s := S256x5120) _ _ _ _ a).trans ((congrArg (· + _) (congrFun (xoff_eq k g.val g.isLt) a)).trans ?_)
  fin_cases a <;> simp [row, Spec.col, ix2] <;> omega

/-- Row `r` of a trip's scales is at that row of the scales' buffer. -/
theorem emb_soff (r : Fin 32) (l : Fin 128) :
    (Rect.unit (s := S256x128) (k0_off42 k) S32x128.size (soff_inb k)).emb (ix2 r l) = ix2 (row k r) l := by
  funext a; apply Fin.ext
  refine (LoopCanon.emb_unit_val (s := S256x128) _ _ _ _ a).trans ((congrArg (· + _) (congrFun (k0_off42_eq k) a)).trans ?_)
  fin_cases a <;> simp [row, ix2] <;> omega

/-- A trip's activations are the block's, at the trip's rows. -/
theorem X_apply (g : Fin 40) (r : Fin 32) (l : Fin 128) : X arg2 (harg2.unread x) k g.val (ix3 0 r l) = x (ix3 0 (row k r) (Spec.col g l)) := by
  rw [X, harg2.readAt_unread]
  exact congrArg x (emb_off k g r l)

/-- A trip's norm weights are the row of weights, at the group's columns. -/
theorem W_apply (g : Fin 40) (l : Fin 128) : W arg3 (harg3.unread w) g.val (ix2 0 l) = w (ix2 0 (Spec.col g l)) := by
  rw [W, harg3.readAt_unread]
  refine congrArg w ?_
  funext a; apply Fin.ext
  refine (LoopCanon.emb_unit_val _ _ _ _ a).trans ?_
  have := g.isLt
  fin_cases a <;> simp [Spec.col, ix2] <;> omega

end Loads

section Canon

variable (arg2 : Memref sig .tc .vmem S1x256x5120 .bf16) (harg2 : arg2.IsWhole) (arg3 : Memref sig .tc .vmem S1x5120 .f32) (harg3 : arg3.IsWhole)
  (x : Vec Ideal S1x256x5120 .bf16) (w : Vec Ideal S1x5120 .f32)

/-- Pieces that grow by each trip's codes leave, at every row and column, that row's code. -/
theorem codes_aux (P : ℕ → List (View.Piece (Elt Ideal) S1x256x5120 .fp8e4m3)) (h0 : P 0 = [])
    (hs : ∀ k : Fin k0_t1_loop.trips, P (k.val + 1) = codesP arg2 arg3 (harg2.unread x) (harg3.unread w) k 40 le_rfl ++ P k.val) (b : Fin 256) (j : Fin 5120) :
    View.canon (P k0_t1_loop.trips) (ix3 0 b j) = Spec.cd (fun k => x (ix3 0 b k)) (fun k => w (ix2 0 k)) j := by
  refine LoopCanon.canon_loop P _ h0 hs (fun z => Spec.cd (fun k => x (ix3 0 (z 1) k)) (fun k => w (ix2 0 k)) (z 2)) (fun k p hp => ?_) (ix3 0 b j) ?_
  · obtain ⟨g, hg, rfl⟩ := (mem_codesP _ _ _ _ _ _ _ _).mp hp
    intro z
    obtain ⟨z1, z2, rfl⟩ := ex3 z
    refine (Slab.code3_apply _ _ _ (fun j => x (ix3 0 (row k z1) j)) (fun j => w (ix2 0 j)) (fun g l => X_apply arg2 harg2 x k g z1 l)
      (fun g l => W_apply arg3 harg3 w g l) ⟨g, hg⟩ z2).trans ?_
    exact (congrArg (fun z : S1x256x5120.Idx => Spec.cd (fun k => x (ix3 0 (z 1) k)) (fun k => w (ix2 0 k)) (z 2)) (emb_off k ⟨g, hg⟩ z1 z2)).symm
  · refine ⟨⟨b.val / 32, by rw [trips8]; omega⟩, _, (mem_codesP _ _ _ _ _ _ _ _).mpr ⟨j.val / 128, by omega, rfl⟩, ?_⟩
    rw [show (ix3 0 b j : S1x256x5120.Idx) = _ from (emb_off ⟨b.val / 32, by rw [trips8]; omega⟩ ⟨j.val / 128, by omega⟩ ⟨b.val % 32, by omega⟩ ⟨j.val % 128, by omega⟩ |>.trans (by
      congr 1 <;> apply Fin.ext <;> simp only [row, Spec.col] <;> omega)).symm]
    exact LoadRect.idx_mem _ _

/-- Pieces that grow by each trip's dequantised rows leave, at every row and column, that row's value. -/
theorem xs_aux (P : ℕ → List (View.Piece (Elt Ideal) S256x5120 .bf16)) (h0 : P 0 = [])
    (hs : ∀ k : Fin k0_t1_loop.trips, P (k.val + 1) = xsP arg2 arg3 (harg2.unread x) (harg3.unread w) k 40 le_rfl ++ P k.val) (b : Fin 256) (j : Fin 5120) :
    View.canon (P k0_t1_loop.trips) (ix2 b j) = Spec.xs (fun k => x (ix3 0 b k)) (fun k => w (ix2 0 k)) j := by
  refine LoopCanon.canon_loop P _ h0 hs (fun z => Spec.xs (fun k => x (ix3 0 (z 0) k)) (fun k => w (ix2 0 k)) (z 1)) (fun k p hp => ?_) (ix2 b j) ?_
  · obtain ⟨g, hg, rfl⟩ := (mem_xsP _ _ _ _ _ _ _ _).mp hp
    intro z
    obtain ⟨z1, z2, rfl⟩ := ex2 z
    refine (Slab.xs_apply _ _ _ (fun j => x (ix3 0 (row k z1) j)) (fun j => w (ix2 0 j)) (fun g l => X_apply arg2 harg2 x k g z1 l)
      (fun g l => W_apply arg3 harg3 w g l) ⟨g, hg⟩ z2).trans ?_
    exact (congrArg (fun z : S256x5120.Idx => Spec.xs (fun k => x (ix3 0 (z 0) k)) (fun k => w (ix2 0 k)) (z 1)) (emb_xoff k ⟨g, hg⟩ z1 z2)).symm
  · refine ⟨⟨b.val / 32, by rw [trips8]; omega⟩, _, (mem_xsP _ _ _ _ _ _ _ _).mpr ⟨j.val / 128, by omega, rfl⟩, ?_⟩
    rw [show (ix2 b j : S256x5120.Idx) = _ from (emb_xoff ⟨b.val / 32, by rw [trips8]; omega⟩ ⟨j.val / 128, by omega⟩ ⟨b.val % 32, by omega⟩ ⟨j.val % 128, by omega⟩ |>.trans (by
      congr 1 <;> apply Fin.ext <;> simp only [row, Spec.col] <;> omega)).symm]
    exact LoadRect.idx_mem _ _

/-- The stored scales, by the block's rows: each row's are its slab's. -/
def scG (z : S256x128.Idx) : EReal :=
  Slab.scaleS (X arg2 (harg2.unread x) ⟨(z 0).val / 32, by rw [trips8]; have : (z 0).val < 256 := (z 0).isLt; omega⟩) (W arg3 (harg3.unread w)) (ix2 ⟨(z 0).val % 32, by omega⟩ (z 1))

/-- Pieces that grow by each trip's scales leave, at every row and group, that row's scale. -/
theorem sc_aux (P : ℕ → List (View.Piece (Elt Ideal) S256x128 .f32)) (h0 : P 0 = [])
    (hs : ∀ k : Fin k0_t1_loop.trips, P (k.val + 1) = scP arg2 arg3 (harg2.unread x) (harg3.unread w) k ++ P k.val) (b : Fin 256) (g : Fin 40) :
    View.canon (P k0_t1_loop.trips) (ix2 b ⟨g.val, by omega⟩) = Spec.sc (fun k => x (ix3 0 b k)) (fun k => w (ix2 0 k)) g := by
  refine (LoopCanon.canon_loop P _ h0 hs (scG arg2 harg2 arg3 harg3 x w) (fun k p hp => ?_) (ix2 b ⟨g.val, by omega⟩) ?_).trans ?_
  · rw [scP, List.mem_singleton] at hp
    subst hp
    intro z
    obtain ⟨z1, z2, rfl⟩ := ex2 z
    refine Eq.trans ?_ (congrArg (scG arg2 harg2 arg3 harg3 x w) (emb_soff k z1 z2)).symm
    show Slab.scaleS (X arg2 (harg2.unread x) k) _ (ix2 z1 z2) = Slab.scaleS (X arg2 (harg2.unread x) ⟨(row k z1).val / 32, _⟩) _ (ix2 ⟨(row k z1).val % 32, _⟩ z2)
    have e1 : (⟨(row k z1).val / 32, by rw [trips8]; have := (row k z1).isLt; omega⟩ : Fin k0_t1_loop.trips) = k := Fin.ext (by simp only [row]; omega)
    have e2 : (⟨(row k z1).val % 32, by omega⟩ : Fin 32) = z1 := Fin.ext (by simp only [row]; omega)
    rw [e1, e2]
  · refine ⟨⟨b.val / 32, by rw [trips8]; omega⟩, _, List.mem_singleton.mpr rfl, ?_⟩
    rw [show (ix2 b ⟨g.val, by omega⟩ : S256x128.Idx) = _ from (emb_soff ⟨b.val / 32, by rw [trips8]; omega⟩ ⟨b.val % 32, by omega⟩ ⟨g.val, by omega⟩ |>.trans (by
      congr 1; apply Fin.ext; simp only [row]; omega)).symm]
    exact LoadRect.idx_mem _ _
  · have hr : row ⟨b.val / 32, by rw [trips8]; omega⟩ ⟨b.val % 32, by omega⟩ = b := Fin.ext (by simp only [row]; omega)
    exact Slab.scaleS_apply _ _ _ (fun j => x (ix3 0 b j)) (fun j => w (ix2 0 j))
      (fun g l => (X_apply arg2 harg2 x ⟨b.val / 32, by rw [trips8]; omega⟩ g ⟨b.val % 32, by omega⟩ l).trans (by rw [hr]))
      (fun g l => W_apply arg3 harg3 w g l) g

end Canon

section Loop

variable (𝒱 : Variants) (c : Dev nD) (bd : Option 𝒱.V) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (k0_h2 : k0_cond2 i = 1#1) (v38 : FVec Ideal S1x128 .f32) (v41 : IVec S128x128 1) (v42 : FVec Ideal S1x256 .f32) (v51 : FVec Ideal S128x128 .f32) (v52 : FVec Ideal S128x128 .f32) (v53 : FVec Ideal S128x128 .f32)  (x : Vec Ideal S1x256x5120 .bf16) (w : Vec Ideal S1x5120 .f32)

/-- The codes the loop leaves. -/
theorem codes_canon (b : Fin 256) (j : Fin 5120) : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 (harg2.unread x) (harg3.unread w) k0_t1_loop.trips).1 (ix3 0 b j) = Spec.cd (fun k => x (ix3 0 b k)) (fun k => w (ix2 0 k)) j :=
  codes_aux arg2 harg2 arg3 harg3 x w (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 (harg2.unread x) (harg3.unread w) n).1) (by show Prod.fst _ = _; rw [pb_k0_t1.eq_1])
    (fun k => by show Prod.fst _ = _; rw [pb_k0_t1_succ, tripCodes]) b j

/-- The dequantised rows the loop leaves. -/
theorem xs_canon (b : Fin 256) (j : Fin 5120) : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 (harg2.unread x) (harg3.unread w) k0_t1_loop.trips).2.1 (ix2 b j) = Spec.xs (fun k => x (ix3 0 b k)) (fun k => w (ix2 0 k)) j :=
  xs_aux arg2 harg2 arg3 harg3 x w (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 (harg2.unread x) (harg3.unread w) n).2.1) (by show Prod.fst (Prod.snd _) = _; rw [pb_k0_t1.eq_1])
    (fun k => by show Prod.fst (Prod.snd _) = _; rw [pb_k0_t1_succ, tripRows]) b j

/-- The scales the loop leaves. -/
theorem sc_canon (b : Fin 256) (g : Fin 40) : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 (harg2.unread x) (harg3.unread w) k0_t1_loop.trips).2.2 (ix2 b ⟨g.val, by omega⟩) = Spec.sc (fun k => x (ix3 0 b k)) (fun k => w (ix2 0 k)) g :=
  sc_aux arg2 harg2 arg3 harg3 x w (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v38 v41 v42 v51 v52 v53 (harg2.unread x) (harg3.unread w) n).2.2) (by show Prod.snd (Prod.snd _) = _; rw [pb_k0_t1.eq_1])
    (fun k => by show Prod.snd (Prod.snd _) = _; rw [pb_k0_t1_succ, tripScales]) b g

end Loop

end Cert.Proof.Trip1

end
-- ==== Proof.CaseA.lean ====
/- The first grid point of the kernel: what its body leaves in each output and scratch buffer, in terms of the rows it was given. -/
module

public import proofs.«01_k».proof.Proof.Gen.KernelIdeal.Frame
public import proofs.«01_k».proof.Proof.Proj
public import proofs.«01_k».proof.Proof.Flip
public import proofs.«01_k».proof.Proof.Trip1Value

@[expose] public section

set_option maxRecDepth 65536
set_option backward.proofsInPublic true

noncomputable section

namespace Cert.Proof.CaseA

open Idealize.ShloMosaic Cert.KernelIdeal Cert.KernelIdeal.Gen

section Lists

variable {F : FTy → Type} [FloatOps F] [Named F]
variable (c : Dev nD) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (hc0 : cond0_0 i) (hc1 : cond0_1 i) (hc2 : ¬cond0_2 i)
  (x0 : Vec F S4x4096 .i32) (x1 : Vec F S1x256x5120 .bf16) (x2 : Vec F S1x5120 .f32) (x3 : Vec F S5120x1792 .fp8e4m3) (x4 : Vec F S1x1792 .f32) (x5 : Vec F S1x128 .f32)

end Lists

section Values

variable (c : Dev nD) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (hc0 : cond0_0 i) (hc1 : cond0_1 i) (hc2 : ¬cond0_2 i)
  (x0 : Vec Ideal S4x4096 .i32) (x1 : Vec Ideal S1x256x5120 .bf16) (x2 : Vec Ideal S1x5120 .f32) (x3 : Vec Ideal S5120x1792 .fp8e4m3) (x4 : Vec Ideal S1x1792 .f32) (x5 : Vec Ideal S1x128 .f32)

/-- The codes of the block's rows. -/
theorem codes (b : Fin 256) (j : Fin 5120) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5).2.2.2.1 (ix3 0 b j) = Spec.cd (fun k => x1 (ix3 0 b k)) (fun k => x2 (ix2 0 k)) j := by
  unfold kernelRun0_A
  exact Trip1.codes_canon ..

/-- The dequantised rows. -/
theorem xs (b : Fin 256) (j : Fin 5120) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5).2.2.2.2.2.1 (ix2 b j) = Spec.xs (fun k => x1 (ix3 0 b k)) (fun k => x2 (ix2 0 k)) j := by
  unfold kernelRun0_A
  exact Trip1.xs_canon ..

/-- The scales of the block's rows. -/
theorem scale (g : Fin 40) (s : Fin 256) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5).2.2.2.2.1 (ix3 0 g s) = Spec.sc (fun k => x1 (ix3 0 s k)) (fun k => x2 (ix2 0 k)) g := by
  unfold kernelRun0_A
  exact Flip.canon_scP arg16 _ (fun s g => Spec.sc (fun k => x1 (ix3 0 s k)) (fun k => x2 (ix2 0 k)) g) (fun s g => Trip1.sc_canon ..) g s

end Values

end Cert.Proof.CaseA

end
-- ==== Proof.Trip2.lean ====
/- One trip of the slab loop of the odd grid points: the pieces it stores are the slab's codes, dequantised rows and scales. -/
module

public import proofs.«01_k».proof.Proof.Slab
public import proofs.«01_k».proof.Proof.Gen.KernelIdeal.Loops

@[expose] public section

set_option maxRecDepth 65536

noncomputable section

namespace Cert.Proof.Trip2

open Idealize.ShloMosaic Cert.KernelIdeal Cert.KernelIdeal.Gen

variable {F : FTy → Type} [FloatOps F] [Named F]

/-- Where the trip's group `g` lies in the block. -/
def off (k : Fin k0_t2_loop.trips) : ℕ → (Fin 3 → ℕ)
  | 0 => k0_off84 k
  | 1 => k0_off85 k
  | 2 => k0_off86 k
  | 3 => k0_off87 k
  | 4 => k0_off88 k
  | 5 => k0_off89 k
  | 6 => k0_off90 k
  | 7 => k0_off91 k
  | 8 => k0_off92 k
  | 9 => k0_off93 k
  | 10 => k0_off94 k
  | 11 => k0_off95 k
  | 12 => k0_off96 k
  | 13 => k0_off97 k
  | 14 => k0_off98 k
  | 15 => k0_off99 k
  | 16 => k0_off100 k
  | 17 => k0_off101 k
  | 18 => k0_off102 k
  | 19 => k0_off103 k
  | 20 => k0_off104 k
  | 21 => k0_off105 k
  | 22 => k0_off106 k
  | 23 => k0_off107 k
  | 24 => k0_off108 k
  | 25 => k0_off109 k
  | 26 => k0_off110 k
  | 27 => k0_off111 k
  | 28 => k0_off112 k
  | 29 => k0_off113 k
  | 30 => k0_off114 k
  | 31 => k0_off115 k
  | 32 => k0_off116 k
  | 33 => k0_off117 k
  | 34 => k0_off118 k
  | 35 => k0_off119 k
  | 36 => k0_off120 k
  | 37 => k0_off121 k
  | 38 => k0_off122 k
  | 39 => k0_off123 k
  | _ => ![0, 32 * k.val, 0]

/-- The same in closed form. -/
theorem off_eq (k : Fin k0_t2_loop.trips) : ∀ g, g < 40 → off k g = ![0, 32 * k.val, 128 * g] := by
  intro g hg
  interval_cases g
  · exact k0_off84_eq k
  · exact k0_off85_eq k
  · exact k0_off86_eq k
  · exact k0_off87_eq k
  · exact k0_off88_eq k
  · exact k0_off89_eq k
  · exact k0_off90_eq k
  · exact k0_off91_eq k
  · exact k0_off92_eq k
  · exact k0_off93_eq k
  · exact k0_off94_eq k
  · exact k0_off95_eq k
  · exact k0_off96_eq k
  · exact k0_off97_eq k
  · exact k0_off98_eq k
  · exact k0_off99_eq k
  · exact k0_off100_eq k
  · exact k0_off101_eq k
  · exact k0_off102_eq k
  · exact k0_off103_eq k
  · exact k0_off104_eq k
  · exact k0_off105_eq k
  · exact k0_off106_eq k
  · exact k0_off107_eq k
  · exact k0_off108_eq k
  · exact k0_off109_eq k
  · exact k0_off110_eq k
  · exact k0_off111_eq k
  · exact k0_off112_eq k
  · exact k0_off113_eq k
  · exact k0_off114_eq k
  · exact k0_off115_eq k
  · exact k0_off116_eq k
  · exact k0_off117_eq k
  · exact k0_off118_eq k
  · exact k0_off119_eq k
  · exact k0_off120_eq k
  · exact k0_off121_eq k
  · exact k0_off122_eq k
  · exact k0_off123_eq k

/-- The loop makes eight trips. -/
theorem trips8 : k0_t2_loop.trips = 8 := by decide +kernel

/-- Every group lies in the block. -/
theorem off_inb (k : Fin k0_t2_loop.trips) (g : ℕ) : ∀ a, off k g a + S1x32x128.size a ≤ S1x256x5120.size a := by
  have hk : k.val < 8 := trips8 ▸ k.isLt
  by_cases hg : g < 40
  · rw [off_eq k g hg]; intro a; fin_cases a <;> simp <;> omega
  · have : off k g = ![0, 32 * k.val, 0] := by
      obtain ⟨j, rfl⟩ : ∃ j, g = 40 + j := ⟨g - 40, by omega⟩
      unfold off
      split <;> first | omega | rfl
    rw [this]; intro a; fin_cases a <;> simp <;> omega

/-- Where the trip's group `g` lies among the dequantised rows. -/
def xoff (k : Fin k0_t2_loop.trips) : ℕ → (Fin 2 → ℕ)
  | 0 => k0_off125 k
  | 1 => k0_off126 k
  | 2 => k0_off127 k
  | 3 => k0_off128 k
  | 4 => k0_off129 k
  | 5 => k0_off130 k
  | 6 => k0_off131 k
  | 7 => k0_off132 k
  | 8 => k0_off133 k
  | 9 => k0_off134 k
  | 10 => k0_off135 k
  | 11 => k0_off136 k
  | 12 => k0_off137 k
  | 13 => k0_off138 k
  | 14 => k0_off139 k
  | 15 => k0_off140 k
  | 16 => k0_off141 k
  | 17 => k0_off142 k
  | 18 => k0_off143 k
  | 19 => k0_off144 k
  | 20 => k0_off145 k
  | 21 => k0_off146 k
  | 22 => k0_off147 k
  | 23 => k0_off148 k
  | 24 => k0_off149 k
  | 25 => k0_off150 k
  | 26 => k0_off151 k
  | 27 => k0_off152 k
  | 28 => k0_off153 k
  | 29 => k0_off154 k
  | 30 => k0_off155 k
  | 31 => k0_off156 k
  | 32 => k0_off157 k
  | 33 => k0_off158 k
  | 34 => k0_off159 k
  | 35 => k0_off160 k
  | 36 => k0_off161 k
  | 37 => k0_off162 k
  | 38 => k0_off163 k
  | 39 => k0_off164 k
  | _ => ![32 * k.val, 0]

/-- The same in closed form. -/
theorem xoff_eq (k : Fin k0_t2_loop.trips) : ∀ g, g < 40 → xoff k g = ![32 * k.val, 128 * g] := by
  intro g hg
  interval_cases g
  · exact k0_off125_eq k
  · exact k0_off126_eq k
  · exact k0_off127_eq k
  · exact k0_off128_eq k
  · exact k0_off129_eq k
  · exact k0_off130_eq k
  · exact k0_off131_eq k
  · exact k0_off132_eq k
  · exact k0_off133_eq k
  · exact k0_off134_eq k
  · exact k0_off135_eq k
  · exact k0_off136_eq k
  · exact k0_off137_eq k
  · exact k0_off138_eq k
  · exact k0_off139_eq k
  · exact k0_off140_eq k
  · exact k0_off141_eq k
  · exact k0_off142_eq k
  · exact k0_off143_eq k
  · exact k0_off144_eq k
  · exact k0_off145_eq k
  · exact k0_off146_eq k
  · exact k0_off147_eq k
  · exact k0_off148_eq k
  · exact k0_off149_eq k
  · exact k0_off150_eq k
  · exact k0_off151_eq k
  · exact k0_off152_eq k
  · exact k0_off153_eq k
  · exact k0_off154_eq k
  · exact k0_off155_eq k
  · exact k0_off156_eq k
  · exact k0_off157_eq k
  · exact k0_off158_eq k
  · exact k0_off159_eq k
  · exact k0_off160_eq k
  · exact k0_off161_eq k
  · exact k0_off162_eq k
  · exact k0_off163_eq k
  · exact k0_off164_eq k

/-- Every group lies among the rows. -/
theorem xoff_inb (k : Fin k0_t2_loop.trips) (g : ℕ) (hg : g < 40) : ∀ a, xoff k g a + S32x128.size a ≤ S256x5120.size a := by
  have hk : k.val < 8 := trips8 ▸ k.isLt
  rw [xoff_eq k g hg]; intro a; fin_cases a <;> simp <;> omega

/-- The trip's scales lie among the block's. -/
theorem soff_inb (k : Fin k0_t2_loop.trips) : ∀ a, k0_off124 k a + S32x128.size a ≤ S256x128.size a := by
  have hk : k.val < 8 := trips8 ▸ k.isLt
  rw [k0_off124_eq k]; intro a; fin_cases a <;> simp <;> omega

/-- Every group lies in the norm weight. -/
theorem wInb (g : ℕ) : ∀ a, (![0, 128 * (g % 40)] : Fin 2 → ℕ) a + S1x128.size a ≤ S1x5120.size a := by
  intro a; fin_cases a <;> simp <;> omega

variable (arg2 : Memref sig .tc .vmem S1x256x5120 .bf16) (arg3 : Memref sig .tc .vmem S1x5120 .f32)
  (X2 : BufTy.Contents (Elt F) arg2.view.ty) (X3 : BufTy.Contents (Elt F) arg3.view.ty) (k : Fin k0_t2_loop.trips)

/-- The trip's loads of the block. -/
def X (g : ℕ) : Vec F S1x32x128 .bf16 :=
  View.readAt (Elt F) arg2.view (Rect.unit (s := S1x256x5120) (off k g) S1x32x128.size (off_inb k g)).toLoadRect X2

/-- The trip's loads of the norm weight. -/
def W (g : ℕ) : Vec F S1x128 .f32 :=
  View.readAt (Elt F) arg3.view (Rect.unit (s := S1x5120) ![0, 128 * (g % 40)] S1x128.size (wInb g)).toLoadRect X3

/-- The first `n` groups' codes as stored, newest first. -/
def codesP : (n : ℕ) → n ≤ 40 → List (View.Piece (Elt F) S1x256x5120 .fp8e4m3)
  | 0, _ => []
  | n + 1, h => ⟨Rect.unit (off k n) S1x32x128.size (off_inb k n), Slab.code3 (X arg2 X2 k) (W arg3 X3) n (by omega)⟩ :: codesP n (by omega)

/-- The first `n` groups' dequantised rows as stored, newest first. -/
def xsP : (n : ℕ) → n ≤ 40 → List (View.Piece (Elt F) S256x5120 .bf16)
  | 0, _ => []
  | n + 1, h => ⟨Rect.unit (xoff k n) S32x128.size (xoff_inb k n (by omega)), Slab.xs (X arg2 X2 k) (W arg3 X3) n (by omega)⟩ :: xsP n (by omega)

/-- The scales as stored. -/
def scP : List (View.Piece (Elt F) S256x128 .f32) :=
  [⟨Rect.unit (k0_off124 k) S32x128.size (soff_inb k), Slab.scaleS (X arg2 X2 k) (W arg3 X3)⟩]

end Cert.Proof.Trip2

end
-- ==== Proof.Trip2Codes.lean ====
/- The codes a trip stores. -/
module

public import proofs.«01_k».proof.Proof.Trip2

@[expose] public section

set_option maxRecDepth 65536
set_option maxHeartbeats 0

noncomputable section

namespace Cert.Proof.Trip2

open Idealize.ShloMosaic Cert.KernelIdeal Cert.KernelIdeal.Gen

variable {F : FTy → Type} [FloatOps F] [Named F]

/-- The codes a trip stores. -/
theorem tripCodes (𝒱 : Variants) (c : Dev nD) (bd : Option 𝒱.V) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (k0_h3 : k0_cond3 i = 1#1) (v38 : FVec F S1x128 .f32) (v41 : IVec S128x128 1) (v42 : FVec F S1x256 .f32) (v51 : FVec F S128x128 .f32) (v52 : FVec F S128x128 .f32) (v53 : FVec F S128x128 .f32) (X2 : BufTy.Contents (Elt F) arg2.view.ty) (X3 : BufTy.Contents (Elt F) arg3.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 X2 X3 k).1 = codesP arg2 arg3 X2 X3 k 40 le_rfl := by
  unfold tripL_k0_t2 trip_k0_t2; exact id rfl

end Cert.Proof.Trip2

end
-- ==== Proof.Trip2Rows.lean ====
/- The dequantised rows a trip stores. -/
module

public import proofs.«01_k».proof.Proof.Trip2

@[expose] public section

set_option maxRecDepth 65536
set_option maxHeartbeats 0

noncomputable section

namespace Cert.Proof.Trip2

open Idealize.ShloMosaic Cert.KernelIdeal Cert.KernelIdeal.Gen

variable {F : FTy → Type} [FloatOps F] [Named F]

/-- The dequantised rows a trip stores. -/
theorem tripRows (𝒱 : Variants) (c : Dev nD) (bd : Option 𝒱.V) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (k0_h3 : k0_cond3 i = 1#1) (v38 : FVec F S1x128 .f32) (v41 : IVec S128x128 1) (v42 : FVec F S1x256 .f32) (v51 : FVec F S128x128 .f32) (v52 : FVec F S128x128 .f32) (v53 : FVec F S128x128 .f32) (X2 : BufTy.Contents (Elt F) arg2.view.ty) (X3 : BufTy.Contents (Elt F) arg3.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 X2 X3 k).2.1 = xsP arg2 arg3 X2 X3 k 40 le_rfl := by
  unfold tripL_k0_t2 trip_k0_t2; exact id rfl

end Cert.Proof.Trip2

end
-- ==== Proof.Trip2Scales.lean ====
/- The scales a trip stores. -/
module

public import proofs.«01_k».proof.Proof.Trip2

@[expose] public section

set_option maxRecDepth 65536
set_option maxHeartbeats 0

noncomputable section

namespace Cert.Proof.Trip2

open Idealize.ShloMosaic Cert.KernelIdeal Cert.KernelIdeal.Gen

variable {F : FTy → Type} [FloatOps F] [Named F]

/-- The scales a trip stores. -/
theorem tripScales (𝒱 : Variants) (c : Dev nD) (bd : Option 𝒱.V) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (k0_h3 : k0_cond3 i = 1#1) (v38 : FVec F S1x128 .f32) (v41 : IVec S128x128 1) (v42 : FVec F S1x256 .f32) (v51 : FVec F S128x128 .f32) (v52 : FVec F S128x128 .f32) (v53 : FVec F S128x128 .f32) (X2 : BufTy.Contents (Elt F) arg2.view.ty) (X3 : BufTy.Contents (Elt F) arg3.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 X2 X3 k).2.2 = scP arg2 arg3 X2 X3 k := by
  unfold tripL_k0_t2 trip_k0_t2; exact id rfl

end Cert.Proof.Trip2

end
-- ==== Proof.Trip2Value.lean ====
/- The slab loop of the odd grid points, over the extended reals: the codes, dequantised rows and scales it leaves are those of the block's rows. -/
module

public import proofs.«01_k».proof.Proof.Trip2Codes
public import proofs.«01_k».proof.Proof.Trip2Rows
public import proofs.«01_k».proof.Proof.Trip2Scales
public import proofs.«01_k».proof.Proof.SlabValue
public import proofs.«01_k».proof.Proof.LoopCanon

@[expose] public section

set_option maxRecDepth 65536

noncomputable section

namespace Cert.Proof.Trip2

open Idealize.ShloMosaic Cert.KernelIdeal Cert.KernelIdeal.Gen

/-- An index of a slab's group, by its row and lane. -/
theorem ex2 (z : S32x128.Idx) : ∃ (r : Fin 32) (l : Fin 128), z = ix2 r l := ⟨z 0, z 1, eq_ix2 z⟩

/-- An index of a slab is a row and a lane. -/
theorem ex3 (z : S1x32x128.Idx) : ∃ (r : Fin 32) (l : Fin 128), z = ix3 0 r l :=
  ⟨z 1, z 2, (eq_ix3 z).trans (congrArg (fun a => ix3 a (z 1) (z 2)) (Fin.eq_zero (z 0)))⟩

/-- A trip's code pieces are its forty groups'. -/
theorem mem_codesP {F : FTy → Type} [FloatOps F] [Named F] (arg2 : Memref sig .tc .vmem S1x256x5120 .bf16) (arg3 : Memref sig .tc .vmem S1x5120 .f32)
    (X2 : BufTy.Contents (Elt F) arg2.view.ty) (X3 : BufTy.Contents (Elt F) arg3.view.ty) (k : Fin k0_t2_loop.trips) (p) : ∀ n (h : n ≤ 40),
    p ∈ codesP arg2 arg3 X2 X3 k n h ↔ ∃ g, ∃ hg : g < n, p = ⟨Rect.unit (off k g) S1x32x128.size (off_inb k g), Slab.code3 (X arg2 X2 k) (W arg3 X3) g (by omega)⟩ := by
  intro n
  induction n with
  | zero => intro h; rw [codesP]; exact ⟨fun h => absurd h List.not_mem_nil, fun ⟨_, hg, _⟩ => absurd hg (by omega)⟩
  | succ n ih =>
    intro h
    rw [codesP, List.mem_cons, ih]
    exact ⟨fun h => h.elim (fun h => ⟨n, by omega, h⟩) fun ⟨g, hg, h⟩ => ⟨g, by omega, h⟩, fun ⟨g, hg, h⟩ => by
      by_cases he : g = n
      · subst he; exact .inl h
      · exact .inr ⟨g, by omega, h⟩⟩

/-- A trip's row pieces are its forty groups'. -/
theorem mem_xsP {F : FTy → Type} [FloatOps F] [Named F] (arg2 : Memref sig .tc .vmem S1x256x5120 .bf16) (arg3 : Memref sig .tc .vmem S1x5120 .f32)
    (X2 : BufTy.Contents (Elt F) arg2.view.ty) (X3 : BufTy.Contents (Elt F) arg3.view.ty) (k : Fin k0_t2_loop.trips) (p) : ∀ n (h : n ≤ 40),
    p ∈ xsP arg2 arg3 X2 X3 k n h ↔ ∃ g, ∃ hg : g < n, p = ⟨Rect.unit (xoff k g) S32x128.size (xoff_inb k g (by omega)), Slab.xs (X arg2 X2 k) (W arg3 X3) g (by omega)⟩ := by
  intro n
  induction n with
  | zero => intro h; rw [xsP]; exact ⟨fun h => absurd h List.not_mem_nil, fun ⟨_, hg, _⟩ => absurd hg (by omega)⟩
  | succ n ih =>
    intro h
    rw [xsP, List.mem_cons, ih]
    exact ⟨fun h => h.elim (fun h => ⟨n, by omega, h⟩) fun ⟨g, hg, h⟩ => ⟨g, by omega, h⟩, fun ⟨g, hg, h⟩ => by
      by_cases he : g = n
      · subst he; exact .inl h
      · exact .inr ⟨g, by omega, h⟩⟩

/-- Row `r` of a trip's slab, in the block. -/
def row (k : Fin k0_t2_loop.trips) (r : Fin 32) : Fin 256 := ⟨32 * k.val + r.val, by have hk : k.val < 8 := trips8 ▸ k.isLt; omega⟩

section Loads

variable (arg2 : Memref sig .tc .vmem S1x256x5120 .bf16) (harg2 : arg2.IsWhole) (arg3 : Memref sig .tc .vmem S1x5120 .f32) (harg3 : arg3.IsWhole)
  (x : Vec Ideal S1x256x5120 .bf16) (w : Vec Ideal S1x5120 .f32) (k : Fin k0_t2_loop.trips)

/-- Lane `l` of row `r` of a trip's group `g` is at that row and column of the code block. -/
theorem emb_off (g : Fin 40) (r : Fin 32) (l : Fin 128) :
    (Rect.unit (s := S1x256x5120) (off k g.val) S1x32x128.size (off_inb k g.val)).emb (ix3 0 r l) = ix3 0 (row k r) (Spec.col g l) := by
  funext a; apply Fin.ext
  refine (LoopCanon.emb_unit_val (s := S1x256x5120) _ _ _ _ a).trans ((congrArg (· + _) (congrFun (off_eq k g.val g.isLt) a)).trans ?_)
  fin_cases a <;> simp [row, Spec.col, ix3] <;> omega

/-- Lane `l` of row `r` of a trip's group `g` is at that row and column of the dequantised rows. -/
theorem emb_xoff (g : Fin 40) (r : Fin 32) (l : Fin 128) :
    (Rect.unit (s := S256x5120) (xoff k g.val) S32x128.size (xoff_inb k g.val g.isLt)).emb (ix2 r l) = ix2 (row k r) (Spec.col g l) := by
  funext a; apply Fin.ext
  refine (LoopCanon.emb_unit_val (s := S256x5120) _ _ _ _ a).trans ((congrArg (· + _) (congrFun (xoff_eq k g.val g.isLt) a)).trans ?_)
  fin_cases a <;> simp [row, Spec.col, ix2] <;> omega

/-- Row `r` of a trip's scales is at that row of the scales' buffer. -/
theorem emb_soff (r : Fin 32) (l : Fin 128) :
    (Rect.unit (s := S256x128) (k0_off124 k) S32x128.size (soff_inb k)).emb (ix2 r l) = ix2 (row k r) l := by
  funext a; apply Fin.ext
  refine (LoopCanon.emb_unit_val (s := S256x128) _ _ _ _ a).trans ((congrArg (· + _) (congrFun (k0_off124_eq k) a)).trans ?_)
  fin_cases a <;> simp [row, ix2] <;> omega

/-- A trip's activations are the block's, at the trip's rows. -/
theorem X_apply (g : Fin 40) (r : Fin 32) (l : Fin 128) : X arg2 (harg2.unread x) k g.val (ix3 0 r l) = x (ix3 0 (row k r) (Spec.col g l)) := by
  rw [X, harg2.readAt_unread]
  exact congrArg x (emb_off k g r l)

/-- A trip's norm weights are the row of weights, at the group's columns. -/
theorem W_apply (g : Fin 40) (l : Fin 128) : W arg3 (harg3.unread w) g.val (ix2 0 l) = w (ix2 0 (Spec.col g l)) := by
  rw [W, harg3.readAt_unread]
  refine congrArg w ?_
  funext a; apply Fin.ext
  refine (LoopCanon.emb_unit_val _ _ _ _ a).trans ?_
  have := g.isLt
  fin_cases a <;> simp [Spec.col, ix2] <;> omega

end Loads

section Canon

variable (arg2 : Memref sig .tc .vmem S1x256x5120 .bf16) (harg2 : arg2.IsWhole) (arg3 : Memref sig .tc .vmem S1x5120 .f32) (harg3 : arg3.IsWhole)
  (x : Vec Ideal S1x256x5120 .bf16) (w : Vec Ideal S1x5120 .f32)

/-- Pieces that grow by each trip's codes leave, at every row and column, that row's code. -/
theorem codes_aux (P : ℕ → List (View.Piece (Elt Ideal) S1x256x5120 .fp8e4m3)) (h0 : P 0 = [])
    (hs : ∀ k : Fin k0_t2_loop.trips, P (k.val + 1) = codesP arg2 arg3 (harg2.unread x) (harg3.unread w) k 40 le_rfl ++ P k.val) (b : Fin 256) (j : Fin 5120) :
    View.canon (P k0_t2_loop.trips) (ix3 0 b j) = Spec.cd (fun k => x (ix3 0 b k)) (fun k => w (ix2 0 k)) j := by
  refine LoopCanon.canon_loop P _ h0 hs (fun z => Spec.cd (fun k => x (ix3 0 (z 1) k)) (fun k => w (ix2 0 k)) (z 2)) (fun k p hp => ?_) (ix3 0 b j) ?_
  · obtain ⟨g, hg, rfl⟩ := (mem_codesP _ _ _ _ _ _ _ _).mp hp
    intro z
    obtain ⟨z1, z2, rfl⟩ := ex3 z
    refine (Slab.code3_apply _ _ _ (fun j => x (ix3 0 (row k z1) j)) (fun j => w (ix2 0 j)) (fun g l => X_apply arg2 harg2 x k g z1 l)
      (fun g l => W_apply arg3 harg3 w g l) ⟨g, hg⟩ z2).trans ?_
    exact (congrArg (fun z : S1x256x5120.Idx => Spec.cd (fun k => x (ix3 0 (z 1) k)) (fun k => w (ix2 0 k)) (z 2)) (emb_off k ⟨g, hg⟩ z1 z2)).symm
  · refine ⟨⟨b.val / 32, by rw [trips8]; omega⟩, _, (mem_codesP _ _ _ _ _ _ _ _).mpr ⟨j.val / 128, by omega, rfl⟩, ?_⟩
    rw [show (ix3 0 b j : S1x256x5120.Idx) = _ from (emb_off ⟨b.val / 32, by rw [trips8]; omega⟩ ⟨j.val / 128, by omega⟩ ⟨b.val % 32, by omega⟩ ⟨j.val % 128, by omega⟩ |>.trans (by
      congr 1 <;> apply Fin.ext <;> simp only [row, Spec.col] <;> omega)).symm]
    exact LoadRect.idx_mem _ _

/-- Pieces that grow by each trip's dequantised rows leave, at every row and column, that row's value. -/
theorem xs_aux (P : ℕ → List (View.Piece (Elt Ideal) S256x5120 .bf16)) (h0 : P 0 = [])
    (hs : ∀ k : Fin k0_t2_loop.trips, P (k.val + 1) = xsP arg2 arg3 (harg2.unread x) (harg3.unread w) k 40 le_rfl ++ P k.val) (b : Fin 256) (j : Fin 5120) :
    View.canon (P k0_t2_loop.trips) (ix2 b j) = Spec.xs (fun k => x (ix3 0 b k)) (fun k => w (ix2 0 k)) j := by
  refine LoopCanon.canon_loop P _ h0 hs (fun z => Spec.xs (fun k => x (ix3 0 (z 0) k)) (fun k => w (ix2 0 k)) (z 1)) (fun k p hp => ?_) (ix2 b j) ?_
  · obtain ⟨g, hg, rfl⟩ := (mem_xsP _ _ _ _ _ _ _ _).mp hp
    intro z
    obtain ⟨z1, z2, rfl⟩ := ex2 z
    refine (Slab.xs_apply _ _ _ (fun j => x (ix3 0 (row k z1) j)) (fun j => w (ix2 0 j)) (fun g l => X_apply arg2 harg2 x k g z1 l)
      (fun g l => W_apply arg3 harg3 w g l) ⟨g, hg⟩ z2).trans ?_
    exact (congrArg (fun z : S256x5120.Idx => Spec.xs (fun k => x (ix3 0 (z 0) k)) (fun k => w (ix2 0 k)) (z 1)) (emb_xoff k ⟨g, hg⟩ z1 z2)).symm
  · refine ⟨⟨b.val / 32, by rw [trips8]; omega⟩, _, (mem_xsP _ _ _ _ _ _ _ _).mpr ⟨j.val / 128, by omega, rfl⟩, ?_⟩
    rw [show (ix2 b j : S256x5120.Idx) = _ from (emb_xoff ⟨b.val / 32, by rw [trips8]; omega⟩ ⟨j.val / 128, by omega⟩ ⟨b.val % 32, by omega⟩ ⟨j.val % 128, by omega⟩ |>.trans (by
      congr 1 <;> apply Fin.ext <;> simp only [row, Spec.col] <;> omega)).symm]
    exact LoadRect.idx_mem _ _

/-- The stored scales, by the block's rows: each row's are its slab's. -/
def scG (z : S256x128.Idx) : EReal :=
  Slab.scaleS (X arg2 (harg2.unread x) ⟨(z 0).val / 32, by rw [trips8]; have : (z 0).val < 256 := (z 0).isLt; omega⟩) (W arg3 (harg3.unread w)) (ix2 ⟨(z 0).val % 32, by omega⟩ (z 1))

/-- Pieces that grow by each trip's scales leave, at every row and group, that row's scale. -/
theorem sc_aux (P : ℕ → List (View.Piece (Elt Ideal) S256x128 .f32)) (h0 : P 0 = [])
    (hs : ∀ k : Fin k0_t2_loop.trips, P (k.val + 1) = scP arg2 arg3 (harg2.unread x) (harg3.unread w) k ++ P k.val) (b : Fin 256) (g : Fin 40) :
    View.canon (P k0_t2_loop.trips) (ix2 b ⟨g.val, by omega⟩) = Spec.sc (fun k => x (ix3 0 b k)) (fun k => w (ix2 0 k)) g := by
  refine (LoopCanon.canon_loop P _ h0 hs (scG arg2 harg2 arg3 harg3 x w) (fun k p hp => ?_) (ix2 b ⟨g.val, by omega⟩) ?_).trans ?_
  · rw [scP, List.mem_singleton] at hp
    subst hp
    intro z
    obtain ⟨z1, z2, rfl⟩ := ex2 z
    refine Eq.trans ?_ (congrArg (scG arg2 harg2 arg3 harg3 x w) (emb_soff k z1 z2)).symm
    show Slab.scaleS (X arg2 (harg2.unread x) k) _ (ix2 z1 z2) = Slab.scaleS (X arg2 (harg2.unread x) ⟨(row k z1).val / 32, _⟩) _ (ix2 ⟨(row k z1).val % 32, _⟩ z2)
    have e1 : (⟨(row k z1).val / 32, by rw [trips8]; have := (row k z1).isLt; omega⟩ : Fin k0_t2_loop.trips) = k := Fin.ext (by simp only [row]; omega)
    have e2 : (⟨(row k z1).val % 32, by omega⟩ : Fin 32) = z1 := Fin.ext (by simp only [row]; omega)
    rw [e1, e2]
  · refine ⟨⟨b.val / 32, by rw [trips8]; omega⟩, _, List.mem_singleton.mpr rfl, ?_⟩
    rw [show (ix2 b ⟨g.val, by omega⟩ : S256x128.Idx) = _ from (emb_soff ⟨b.val / 32, by rw [trips8]; omega⟩ ⟨b.val % 32, by omega⟩ ⟨g.val, by omega⟩ |>.trans (by
      congr 1; apply Fin.ext; simp only [row]; omega)).symm]
    exact LoadRect.idx_mem _ _
  · have hr : row ⟨b.val / 32, by rw [trips8]; omega⟩ ⟨b.val % 32, by omega⟩ = b := Fin.ext (by simp only [row]; omega)
    exact Slab.scaleS_apply _ _ _ (fun j => x (ix3 0 b j)) (fun j => w (ix2 0 j))
      (fun g l => (X_apply arg2 harg2 x ⟨b.val / 32, by rw [trips8]; omega⟩ g ⟨b.val % 32, by omega⟩ l).trans (by rw [hr]))
      (fun g l => W_apply arg3 harg3 w g l) g

end Canon

section Loop

variable (𝒱 : Variants) (c : Dev nD) (bd : Option 𝒱.V) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (k0_h3 : k0_cond3 i = 1#1) (v38 : FVec Ideal S1x128 .f32) (v41 : IVec S128x128 1) (v42 : FVec Ideal S1x256 .f32) (v51 : FVec Ideal S128x128 .f32) (v52 : FVec Ideal S128x128 .f32) (v53 : FVec Ideal S128x128 .f32)  (x : Vec Ideal S1x256x5120 .bf16) (w : Vec Ideal S1x5120 .f32)

/-- The codes the loop leaves. -/
theorem codes_canon (b : Fin 256) (j : Fin 5120) : View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 (harg2.unread x) (harg3.unread w) k0_t2_loop.trips).1 (ix3 0 b j) = Spec.cd (fun k => x (ix3 0 b k)) (fun k => w (ix2 0 k)) j :=
  codes_aux arg2 harg2 arg3 harg3 x w (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 (harg2.unread x) (harg3.unread w) n).1) (by show Prod.fst _ = _; rw [pb_k0_t2.eq_1])
    (fun k => by show Prod.fst _ = _; rw [pb_k0_t2_succ, tripCodes]) b j

/-- The dequantised rows the loop leaves. -/
theorem xs_canon (b : Fin 256) (j : Fin 5120) : View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 (harg2.unread x) (harg3.unread w) k0_t2_loop.trips).2.1 (ix2 b j) = Spec.xs (fun k => x (ix3 0 b k)) (fun k => w (ix2 0 k)) j :=
  xs_aux arg2 harg2 arg3 harg3 x w (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 (harg2.unread x) (harg3.unread w) n).2.1) (by show Prod.fst (Prod.snd _) = _; rw [pb_k0_t2.eq_1])
    (fun k => by show Prod.fst (Prod.snd _) = _; rw [pb_k0_t2_succ, tripRows]) b j

/-- The scales the loop leaves. -/
theorem sc_canon (b : Fin 256) (g : Fin 40) : View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 (harg2.unread x) (harg3.unread w) k0_t2_loop.trips).2.2 (ix2 b ⟨g.val, by omega⟩) = Spec.sc (fun k => x (ix3 0 b k)) (fun k => w (ix2 0 k)) g :=
  sc_aux arg2 harg2 arg3 harg3 x w (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 v38 v41 v42 v51 v52 v53 (harg2.unread x) (harg3.unread w) n).2.2) (by show Prod.snd (Prod.snd _) = _; rw [pb_k0_t2.eq_1])
    (fun k => by show Prod.snd (Prod.snd _) = _; rw [pb_k0_t2_succ, tripScales]) b g

end Loop

end Cert.Proof.Trip2

end
-- ==== Proof.CaseB.lean ====
/- One odd grid point of the kernel: what its body leaves in each output and scratch buffer, in terms of the rows it was given. -/
module

public import proofs.«01_k».proof.Proof.Gen.KernelIdeal.Frame
public import proofs.«01_k».proof.Proof.Proj
public import proofs.«01_k».proof.Proof.Flip
public import proofs.«01_k».proof.Proof.Trip2Value

@[expose] public section

set_option maxRecDepth 65536
set_option backward.proofsInPublic true

noncomputable section

namespace Cert.Proof.CaseB

open Idealize.ShloMosaic Cert.KernelIdeal Cert.KernelIdeal.Gen

section Lists

variable {F : FTy → Type} [FloatOps F] [Named F]
variable (c : Dev nD) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
  (x0 : Vec F S4x4096 .i32) (x1 : Vec F S1x256x5120 .bf16) (x2 : Vec F S1x5120 .f32) (x3 : Vec F S5120x1792 .fp8e4m3) (x4 : Vec F S1x1792 .f32) (x5 : Vec F S1x128 .f32) (xs0 : Vec F S256x5120 .bf16)

/-- The block's positions. -/
def pos : Vec F S1x256 .i32 := View.readAt (Elt F) arg1.view (Rect.unit (s := S4x4096) (k0_off83 i) S1x256.size (k0_off83_inb i hc2)).toLoadRect (harg1.unread x0)

/-- The frequencies. -/
def frq : Vec F S1x128 .f32 := View.readAt (Elt F) arg6.view (Rect.unit (s := S1x128) ![0, 0] S1x128.size inb_S1x128_S1x128_0_0).toLoadRect (harg6.unread x5)

/-- The table of cosines as read back. -/
def tc : Vec F S256x128 .f32 :=
  arg14.view.readCov (Proj.cP (pos i arg1 harg1 hc2 x0) (frq arg6 harg6 x5)) (Rect.unit ![0, 0] S256x128.size inb_S256x128_S256x128_0_0).toLoadRect

/-- The table of signed sines as read back. -/
def ts : Vec F S256x128 .f32 :=
  arg15.view.readCov (Proj.sP (pos i arg1 harg1 hc2 x0) (frq arg6 harg6 x5)) (Rect.unit ![0, 0] S256x128.size inb_S256x128_S256x128_0_0).toLoadRect

/-- The dequantised rows the point before left. -/
def rows : Vec F S256x5120 .bf16 := View.readAt (Elt F) arg12.view (Rect.unit ![0, 0] S256x5120.size inb_S256x5120_S256x5120_0_0).toLoadRect (harg12.unread xs0)

/-- The query heads' pieces. -/
theorem q_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).1 = Proj.qP (tc i arg1 harg1 arg6 harg6 arg14 hc2 x0 x5) (ts i arg1 harg1 arg6 harg6 arg15 hc2 x0 x5) (Proj.M (rows arg12 harg12 xs0) arg4 arg5 (harg4.unread x3) (harg5.unread x4)) := by
  unfold kernelRun0_B
  exact id rfl

/-- The key heads' piece. -/
theorem k_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).2.1 = Proj.kP (tc i arg1 harg1 arg6 harg6 arg14 hc2 x0 x5) (ts i arg1 harg1 arg6 harg6 arg15 hc2 x0 x5) (Proj.M (rows arg12 harg12 xs0) arg4 arg5 (harg4.unread x3) (harg5.unread x4)) := by
  unfold kernelRun0_B
  exact id rfl

/-- The value heads' piece. -/
theorem v_eq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).2.2.1 = Proj.vP (Proj.M (rows arg12 harg12 xs0) arg4 arg5 (harg4.unread x3) (harg5.unread x4)) := by
  unfold kernelRun0_B
  exact id rfl

end Lists

section Values

variable (c : Dev nD) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
  (x0 : Vec Ideal S4x4096 .i32) (x1 : Vec Ideal S1x256x5120 .bf16) (x2 : Vec Ideal S1x5120 .f32) (x3 : Vec Ideal S5120x1792 .fp8e4m3) (x4 : Vec Ideal S1x1792 .f32) (x5 : Vec Ideal S1x128 .f32) (xs0 : Vec Ideal S256x5120 .bf16)

/-- The codes of the block's rows. -/
theorem codes (b : Fin 256) (j : Fin 5120) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).2.2.2.1 (ix3 0 b j) = Spec.cd (fun k => x1 (ix3 0 b k)) (fun k => x2 (ix2 0 k)) j := by
  unfold kernelRun0_B
  exact Trip2.codes_canon ..

/-- The dequantised rows. -/
theorem xs (b : Fin 256) (j : Fin 5120) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).2.2.2.2.2.2.1 (ix2 b j) = Spec.xs (fun k => x1 (ix3 0 b k)) (fun k => x2 (ix2 0 k)) j := by
  unfold kernelRun0_B
  exact Trip2.xs_canon ..

/-- The scales of the block's rows. -/
theorem scale (g : Fin 40) (s : Fin 256) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).2.2.2.2.1 (ix3 0 g s) = Spec.sc (fun k => x1 (ix3 0 s k)) (fun k => x2 (ix2 0 k)) g := by
  unfold kernelRun0_B
  exact Flip.canon_scP arg16 _ (fun s g => Spec.sc (fun k => x1 (ix3 0 s k)) (fun k => x2 (ix2 0 k)) g) (fun s g => Trip2.sc_canon ..) g s

section Tables

variable (a : Fin 4) (b : Fin 16) (hoff : k0_off83 i = ![a.val, b.val * 256]) (φ : Fin 64 → EReal) (hf : ∀ l : Fin 128, x5 (ix2 0 l) = φ ⟨l.val % 64, by omega⟩)

/-- The staged frequencies, read whole. -/
theorem frq_eq : frq arg6 harg6 x5 = x5 := by
  funext z
  refine (harg6.readAt_unread x5 (Rect.unit (s := S1x128) ![0, 0] S1x128.size inb_S1x128_S1x128_0_0).toLoadRect z).trans ?_
  exact congrArg x5 (Rect.emb_unit_full (s := S1x128) inb_S1x128_S1x128_0_0 z)

/-- The dequantised rows of the point before, read whole. -/
theorem rows_eq : rows arg12 harg12 xs0 = xs0 := by
  funext z
  refine (harg12.readAt_unread xs0 (Rect.unit (s := S256x5120) ![0, 0] S256x5120.size inb_S256x5120_S256x5120_0_0).toLoadRect z).trans ?_
  exact congrArg xs0 (Rect.emb_unit_full (s := S256x5120) inb_S256x5120_S256x5120_0_0 z)

include hoff in
/-- The positions of the block being projected, read from the staged positions. -/
theorem pos_apply (r : Fin 256) : pos i arg1 harg1 hc2 x0 (ix2 0 r) = x0 (ix2 a ⟨b.val * 256 + r.val, by omega⟩) :=
  (harg1.readAt_unread x0 _ _).trans (congrArg x0 (by
    funext d; apply Fin.ext
    refine (LoopCanon.emb_unit_val (s := S4x4096) _ _ _ _ d).trans ((congrArg (· + _) (congrFun hoff d)).trans ?_)
    fin_cases d <;> simp [ix2]))

include hoff hf in
/-- A head turned by the point's tables is the head turned by its row's angles. -/
theorem turn_head (Y : FVec Ideal S256x128 .f32) (y : Fin 128 → EReal) (r : Fin 256) (hY : ∀ l, Y (ix2 r l) = y l) (l : Fin 128) :
    Proj.turn (tc i arg1 harg1 arg6 harg6 arg14 hc2 x0 x5) (ts i arg1 harg1 arg6 harg6 arg15 hc2 x0 x5) Y (ix2 r l) = Spec.rot y (Proj.ang x0 a b φ r) l := by
  refine Proj.turn_rot _ _ _ r y _ hY (fun l => ?_) (fun l => ?_) l
  · refine (congrFun (View.readCov_eq_canon' arg14.view (Proj.cP (pos i arg1 harg1 hc2 x0) (frq arg6 harg6 x5)) _) _).trans ?_
    refine (congrArg (View.canon (Proj.cP (pos i arg1 harg1 hc2 x0) (frq arg6 harg6 x5))) (Rect.emb_unit_full (s := S256x128) inb_S256x128_S256x128_0_0 (ix2 r l))).trans ?_
    rw [Proj.cos_canon _ _ φ (by rw [frq_eq]; exact hf), pos_apply i arg1 harg1 hc2 x0 a b hoff]
    rfl
  · refine (congrFun (View.readCov_eq_canon' arg15.view (Proj.sP (pos i arg1 harg1 hc2 x0) (frq arg6 harg6 x5)) _) _).trans ?_
    refine (congrArg (View.canon (Proj.sP (pos i arg1 harg1 hc2 x0) (frq arg6 harg6 x5))) (Rect.emb_unit_full (s := S256x128) inb_S256x128_S256x128_0_0 (ix2 r l))).trans ?_
    rw [Proj.sin_canon _ _ φ (by rw [frq_eq]; exact hf), pos_apply i arg1 harg1 hc2 x0 a b hoff]
    rfl

include hoff hf in
/-- The query heads. -/
theorem q (h : Fin 10) (r : Fin 256) (l : Fin 128) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).1 (ix4 0 h r l) =
    Spec.rot (Proj.hd x3 x4 xs0 r ⟨h.val, by omega⟩) (Proj.ang x0 a b φ r) l := by
  rw [q_eq, Proj.q_canon _ _ harg4 _ harg5]
  refine turn_head _ _ _ _ _ _ _ _ x0 x5 a b hoff φ hf _ _ r (fun l => ?_) l
  rw [rows_eq]
  exact Proj.head_apply xs0 arg4 harg4 arg5 harg5 x3 x4 ⟨h.val, by omega⟩ r l

include hoff hf in
/-- The key heads. -/
theorem k (h : Fin 2) (r : Fin 256) (l : Fin 128) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).2.1 (ix4 0 r h l) =
    Spec.rot (Proj.hd x3 x4 xs0 r ⟨10 + h.val, by omega⟩) (Proj.ang x0 a b φ r) l := by
  rw [k_eq, Proj.k_canon _ _ harg4 _ harg5]
  refine turn_head _ _ _ _ _ _ _ _ x0 x5 a b hoff φ hf _ _ r (fun l => ?_) l
  rw [rows_eq]
  exact Proj.head_apply xs0 arg4 harg4 arg5 harg5 x3 x4 ⟨10 + h.val, by omega⟩ r l

/-- The value heads. -/
theorem v (h : Fin 2) (r : Fin 256) (l : Fin 128) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0).2.2.1 (ix4 0 r h l) = Proj.hd x3 x4 xs0 r ⟨12 + h.val, by omega⟩ l := by
  rw [v_eq, Proj.v_canon _ _ harg4 _ harg5, rows_eq]
  exact Proj.head_apply xs0 arg4 harg4 arg5 harg5 x3 x4 ⟨12 + h.val, by omega⟩ r l

end Tables

end Values

end Cert.Proof.CaseB

end
-- ==== Proof.CaseC.lean ====
/- One even grid point of the kernel: what its body leaves in each output and scratch buffer, in terms of the rows it was given. -/
module

public import proofs.«01_k».proof.Proof.Gen.KernelIdeal.Frame
public import proofs.«01_k».proof.Proof.Proj
public import proofs.«01_k».proof.Proof.Flip
public import proofs.«01_k».proof.Proof.Trip1Value

@[expose] public section

set_option maxRecDepth 65536
set_option backward.proofsInPublic true

noncomputable section

namespace Cert.Proof.CaseC

open Idealize.ShloMosaic Cert.KernelIdeal Cert.KernelIdeal.Gen

section Lists

variable {F : FTy → Type} [FloatOps F] [Named F]
variable (c : Dev nD) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : cond0_1 i) (hc2 : ¬cond0_2 i)
  (x0 : Vec F S4x4096 .i32) (x1 : Vec F S1x256x5120 .bf16) (x2 : Vec F S1x5120 .f32) (x3 : Vec F S5120x1792 .fp8e4m3) (x4 : Vec F S1x1792 .f32) (x5 : Vec F S1x128 .f32) (xs1 : Vec F S256x5120 .bf16)

/-- The block's positions. -/
def pos : Vec F S1x256 .i32 := View.readAt (Elt F) arg1.view (Rect.unit (s := S4x4096) (k0_off1 i) S1x256.size (k0_off1_inb i hc1)).toLoadRect (harg1.unread x0)

/-- The frequencies. -/
def frq : Vec F S1x128 .f32 := View.readAt (Elt F) arg6.view (Rect.unit (s := S1x128) ![0, 0] S1x128.size inb_S1x128_S1x128_0_0).toLoadRect (harg6.unread x5)

/-- The table of cosines as read back. -/
def tc : Vec F S256x128 .f32 :=
  arg14.view.readCov (Proj.cP (pos i arg1 harg1 hc1 x0) (frq arg6 harg6 x5)) (Rect.unit ![0, 0] S256x128.size inb_S256x128_S256x128_0_0).toLoadRect

/-- The table of signed sines as read back. -/
def ts : Vec F S256x128 .f32 :=
  arg15.view.readCov (Proj.sP (pos i arg1 harg1 hc1 x0) (frq arg6 harg6 x5)) (Rect.unit ![0, 0] S256x128.size inb_S256x128_S256x128_0_0).toLoadRect

/-- The dequantised rows the point before left. -/
def rows : Vec F S256x5120 .bf16 := View.readAt (Elt F) arg13.view (Rect.unit ![0, 0] S256x5120.size inb_S256x5120_S256x5120_0_0).toLoadRect (harg13.unread xs1)

/-- The query heads' pieces. -/
theorem q_eq : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).1 = Proj.qP (tc i arg1 harg1 arg6 harg6 arg14 hc1 x0 x5) (ts i arg1 harg1 arg6 harg6 arg15 hc1 x0 x5) (Proj.M (rows arg13 harg13 xs1) arg4 arg5 (harg4.unread x3) (harg5.unread x4)) := by
  unfold kernelRun0_C
  exact id rfl

/-- The key heads' piece. -/
theorem k_eq : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).2.1 = Proj.kP (tc i arg1 harg1 arg6 harg6 arg14 hc1 x0 x5) (ts i arg1 harg1 arg6 harg6 arg15 hc1 x0 x5) (Proj.M (rows arg13 harg13 xs1) arg4 arg5 (harg4.unread x3) (harg5.unread x4)) := by
  unfold kernelRun0_C
  exact id rfl

/-- The value heads' piece. -/
theorem v_eq : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).2.2.1 = Proj.vP (Proj.M (rows arg13 harg13 xs1) arg4 arg5 (harg4.unread x3) (harg5.unread x4)) := by
  unfold kernelRun0_C
  exact id rfl

end Lists

section Values

variable (c : Dev nD) (i : grid0.Coords) (arg1 : Memref sig .tc .vmem S4x4096 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .vmem S1x1792 .f32) (harg5 : arg5.IsWhole) (arg6 : Memref sig .tc .vmem S1x128 .f32) (harg6 : arg6.IsWhole) (arg7 : Memref sig .tc .vmem S1x10x256x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x40x256 .f32) (harg11 : arg11.IsWhole) (arg12 : Memref sig .tc .vmem S256x5120 .bf16) (harg12 : arg12.IsWhole) (arg13 : Memref sig .tc .vmem S256x5120 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : cond0_1 i) (hc2 : ¬cond0_2 i)
  (x0 : Vec Ideal S4x4096 .i32) (x1 : Vec Ideal S1x256x5120 .bf16) (x2 : Vec Ideal S1x5120 .f32) (x3 : Vec Ideal S5120x1792 .fp8e4m3) (x4 : Vec Ideal S1x1792 .f32) (x5 : Vec Ideal S1x128 .f32) (xs1 : Vec Ideal S256x5120 .bf16)

/-- The codes of the block's rows. -/
theorem codes (b : Fin 256) (j : Fin 5120) : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).2.2.2.1 (ix3 0 b j) = Spec.cd (fun k => x1 (ix3 0 b k)) (fun k => x2 (ix2 0 k)) j := by
  unfold kernelRun0_C
  exact Trip1.codes_canon ..

/-- The dequantised rows. -/
theorem xs (b : Fin 256) (j : Fin 5120) : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).2.2.2.2.2.1 (ix2 b j) = Spec.xs (fun k => x1 (ix3 0 b k)) (fun k => x2 (ix2 0 k)) j := by
  unfold kernelRun0_C
  exact Trip1.xs_canon ..

/-- The scales of the block's rows. -/
theorem scale (g : Fin 40) (s : Fin 256) : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).2.2.2.2.1 (ix3 0 g s) = Spec.sc (fun k => x1 (ix3 0 s k)) (fun k => x2 (ix2 0 k)) g := by
  unfold kernelRun0_C
  exact Flip.canon_scP arg16 _ (fun s g => Spec.sc (fun k => x1 (ix3 0 s k)) (fun k => x2 (ix2 0 k)) g) (fun s g => Trip1.sc_canon ..) g s

section Tables

variable (a : Fin 4) (b : Fin 16) (hoff : k0_off1 i = ![a.val, b.val * 256]) (φ : Fin 64 → EReal) (hf : ∀ l : Fin 128, x5 (ix2 0 l) = φ ⟨l.val % 64, by omega⟩)

/-- The staged frequencies, read whole. -/
theorem frq_eq : frq arg6 harg6 x5 = x5 := by
  funext z
  refine (harg6.readAt_unread x5 (Rect.unit (s := S1x128) ![0, 0] S1x128.size inb_S1x128_S1x128_0_0).toLoadRect z).trans ?_
  exact congrArg x5 (Rect.emb_unit_full (s := S1x128) inb_S1x128_S1x128_0_0 z)

/-- The dequantised rows of the point before, read whole. -/
theorem rows_eq : rows arg13 harg13 xs1 = xs1 := by
  funext z
  refine (harg13.readAt_unread xs1 (Rect.unit (s := S256x5120) ![0, 0] S256x5120.size inb_S256x5120_S256x5120_0_0).toLoadRect z).trans ?_
  exact congrArg xs1 (Rect.emb_unit_full (s := S256x5120) inb_S256x5120_S256x5120_0_0 z)

include hoff in
/-- The positions of the block being projected, read from the staged positions. -/
theorem pos_apply (r : Fin 256) : pos i arg1 harg1 hc1 x0 (ix2 0 r) = x0 (ix2 a ⟨b.val * 256 + r.val, by omega⟩) :=
  (harg1.readAt_unread x0 _ _).trans (congrArg x0 (by
    funext d; apply Fin.ext
    refine (LoopCanon.emb_unit_val (s := S4x4096) _ _ _ _ d).trans ((congrArg (· + _) (congrFun hoff d)).trans ?_)
    fin_cases d <;> simp [ix2]))

include hoff hf in
/-- A head turned by the point's tables is the head turned by its row's angles. -/
theorem turn_head (Y : FVec Ideal S256x128 .f32) (y : Fin 128 → EReal) (r : Fin 256) (hY : ∀ l, Y (ix2 r l) = y l) (l : Fin 128) :
    Proj.turn (tc i arg1 harg1 arg6 harg6 arg14 hc1 x0 x5) (ts i arg1 harg1 arg6 harg6 arg15 hc1 x0 x5) Y (ix2 r l) = Spec.rot y (Proj.ang x0 a b φ r) l := by
  refine Proj.turn_rot _ _ _ r y _ hY (fun l => ?_) (fun l => ?_) l
  · refine (congrFun (View.readCov_eq_canon' arg14.view (Proj.cP (pos i arg1 harg1 hc1 x0) (frq arg6 harg6 x5)) _) _).trans ?_
    refine (congrArg (View.canon (Proj.cP (pos i arg1 harg1 hc1 x0) (frq arg6 harg6 x5))) (Rect.emb_unit_full (s := S256x128) inb_S256x128_S256x128_0_0 (ix2 r l))).trans ?_
    rw [Proj.cos_canon _ _ φ (by rw [frq_eq]; exact hf), pos_apply i arg1 harg1 hc1 x0 a b hoff]
    rfl
  · refine (congrFun (View.readCov_eq_canon' arg15.view (Proj.sP (pos i arg1 harg1 hc1 x0) (frq arg6 harg6 x5)) _) _).trans ?_
    refine (congrArg (View.canon (Proj.sP (pos i arg1 harg1 hc1 x0) (frq arg6 harg6 x5))) (Rect.emb_unit_full (s := S256x128) inb_S256x128_S256x128_0_0 (ix2 r l))).trans ?_
    rw [Proj.sin_canon _ _ φ (by rw [frq_eq]; exact hf), pos_apply i arg1 harg1 hc1 x0 a b hoff]
    rfl

include hoff hf in
/-- The query heads. -/
theorem q (h : Fin 10) (r : Fin 256) (l : Fin 128) : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).1 (ix4 0 h r l) =
    Spec.rot (Proj.hd x3 x4 xs1 r ⟨h.val, by omega⟩) (Proj.ang x0 a b φ r) l := by
  rw [q_eq, Proj.q_canon _ _ harg4 _ harg5]
  refine turn_head _ _ _ _ _ _ _ _ x0 x5 a b hoff φ hf _ _ r (fun l => ?_) l
  rw [rows_eq]
  exact Proj.head_apply xs1 arg4 harg4 arg5 harg5 x3 x4 ⟨h.val, by omega⟩ r l

include hoff hf in
/-- The key heads. -/
theorem k (h : Fin 2) (r : Fin 256) (l : Fin 128) : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).2.1 (ix4 0 r h l) =
    Spec.rot (Proj.hd x3 x4 xs1 r ⟨10 + h.val, by omega⟩) (Proj.ang x0 a b φ r) l := by
  rw [k_eq, Proj.k_canon _ _ harg4 _ harg5]
  refine turn_head _ _ _ _ _ _ _ _ x0 x5 a b hoff φ hf _ _ r (fun l => ?_) l
  rw [rows_eq]
  exact Proj.head_apply xs1 arg4 harg4 arg5 harg5 x3 x4 ⟨10 + h.val, by omega⟩ r l

/-- The value heads. -/
theorem v (h : Fin 2) (r : Fin 256) (l : Fin 128) : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs1).2.2.1 (ix4 0 r h l) = Proj.hd x3 x4 xs1 r ⟨12 + h.val, by omega⟩ l := by
  rw [v_eq, Proj.v_canon _ _ harg4 _ harg5, rows_eq]
  exact Proj.head_apply xs1 arg4 harg4 arg5 harg5 x3 x4 ⟨12 + h.val, by omega⟩ r l

end Tables

end Values

end Cert.Proof.CaseC

end
-- ==== Proof.Points.lean ====
/- What each grid point of the kernel leaves in its output buffers and in the two buffers of dequantised rows, from the blocks it was given. -/
module

public import proofs.«01_k».proof.Proof.CaseA
public import proofs.«01_k».proof.Proof.CaseB
public import proofs.«01_k».proof.Proof.CaseC

@[expose] public section

set_option maxRecDepth 65536
set_option backward.proofsInPublic true

noncomputable section

namespace Cert.Proof.Points

open Idealize.ShloMosaic Idealize.ShloMosaic.TcCoe Cert.KernelIdeal Cert.KernelIdeal.Gen

variable (m : (ℓ : Loc nD τ sig) → Buf (Elt Ideal) ℓ) (c : Dev nD) (t : Fin cfg0.N)

/-- Row `b` of the block of activations at point `t`. -/
def xr (b : Fin 256) (k : Fin 5120) : EReal := (iblk m c 1 t : Vec Ideal S1x256x5120 .bf16) (ix3 0 b k)

/-- The norm weights at point `t`. -/
def nw (k : Fin 5120) : EReal := (iblk m c 2 t : Vec Ideal S1x5120 .f32) (ix2 0 k)

/-- The codes a point leaves are those of its block. -/
theorem codes (b : Fin 256) (j : Fin 5120) : (outsAt0 m c t.val t.isLt).2.2.2.1 (ix3 0 b j) = Spec.cd (xr m c t b) (nw m c t) j := by
  have ht : t.val < 65 := lt_of_lt_of_eq t.isLt N_0
  by_cases h0 : t.val % 65 = 0
  · have h1 : t.val % 2 = 0 := by omega
    have h2 : ¬t.val % 2 = 1 := by omega
    rw [outsAt0_A m c t h0 h1 h2]
    dsimp only
    unfold out0_A_9
    rw [View.read_writes_junk_eq_canon]
    exact CaseA.codes ..
  · by_cases h1 : t.val % 2 = 0
    · have h2 : ¬t.val % 2 = 1 := by omega
      rw [outsAt0_C m c t h0 h1 h2]
      dsimp only
      unfold out0_C_9
      rw [View.read_writes_junk_eq_canon]
      exact CaseC.codes ..
    · have h2 : t.val % 2 = 1 := by omega
      rw [outsAt0_B m c t h0 h1 h2]
      dsimp only
      unfold out0_B_9
      rw [View.read_writes_junk_eq_canon]
      exact CaseB.codes ..

/-- The scales a point leaves are those of its block. -/
theorem scale (g : Fin 40) (b : Fin 256) : (outsAt0 m c t.val t.isLt).2.2.2.2.1 (ix3 0 g b) = Spec.sc (xr m c t b) (nw m c t) g := by
  have ht : t.val < 65 := lt_of_lt_of_eq t.isLt N_0
  by_cases h0 : t.val % 65 = 0
  · have h1 : t.val % 2 = 0 := by omega
    have h2 : ¬t.val % 2 = 1 := by omega
    rw [outsAt0_A m c t h0 h1 h2]
    dsimp only
    unfold out0_A_10
    rw [View.read_writes_junk_eq_canon]
    exact CaseA.scale ..
  · by_cases h1 : t.val % 2 = 0
    · have h2 : ¬t.val % 2 = 1 := by omega
      rw [outsAt0_C m c t h0 h1 h2]
      dsimp only
      unfold out0_C_10
      rw [View.read_writes_junk_eq_canon]
      exact CaseC.scale ..
    · have h2 : t.val % 2 = 1 := by omega
      rw [outsAt0_B m c t h0 h1 h2]
      dsimp only
      unfold out0_B_10
      rw [View.read_writes_junk_eq_canon]
      exact CaseB.scale ..

/-- An even point leaves its dequantised rows in the first buffer. -/
theorem xsE (he : t.val % 2 = 0) (b : Fin 256) (j : Fin 5120) : (outsAt0 m c t.val t.isLt).2.2.2.2.2.1 (ix2 b j) = Spec.xs (xr m c t b) (nw m c t) j := by
  have h2 : ¬t.val % 2 = 1 := by omega
  by_cases h0 : t.val % 65 = 0
  · rw [outsAt0_A m c t h0 he h2]
    dsimp only
    unfold sout0_A_0
    rw [View.read_writes_junk_eq_canon]
    exact CaseA.xs ..
  · rw [outsAt0_C m c t h0 he h2]
    dsimp only
    unfold sout0_C_0
    rw [View.read_writes_junk_eq_canon]
    exact CaseC.xs ..

/-- An odd point leaves them in the second. -/
theorem xsO (ho : t.val % 2 = 1) (b : Fin 256) (j : Fin 5120) : (outsAt0 m c t.val t.isLt).2.2.2.2.2.2 (ix2 b j) = Spec.xs (xr m c t b) (nw m c t) j := by
  have ht : t.val < 65 := lt_of_lt_of_eq t.isLt N_0
  have h0 : ¬t.val % 65 = 0 := by omega
  have h1 : ¬t.val % 2 = 0 := by omega
  rw [outsAt0_B m c t h0 h1 ho]
  dsimp only
  unfold sout0_B_1
  rw [View.read_writes_junk_eq_canon]
  exact CaseB.xs ..

/-- The point before. -/
def pt : Fin cfg0.N := ⟨t.val - 1, Nat.lt_of_le_of_lt (Nat.sub_le _ _) t.isLt⟩

/-- Where an even point reads its positions. -/
theorem off1 : ∀ t : Fin cfg0.N, k0_off1 (grid0.coords t) = ![(t.val - 1) / 16, (t.val - 1) % 16 * 256] :=
  (by decide +kernel : ∀ t : Fin grid0.N, _)

/-- Where an odd point reads its positions. -/
theorem off83 : ∀ t : Fin cfg0.N, k0_off83 (grid0.coords t) = ![(t.val - 1) / 16, (t.val - 1) % 16 * 256] :=
  (by decide +kernel : ∀ t : Fin grid0.N, _)

/-- The batch of the block a point projects. -/
def ba : Fin 4 := ⟨(t.val - 1) / 16, by have ht : t.val < 65 := lt_of_lt_of_eq t.isLt N_0; omega⟩

/-- Its place in the sequence. -/
def bb : Fin 16 := ⟨(t.val - 1) % 16, Nat.mod_lt _ (by decide)⟩

/-- Lane `l` of head `h` of the row `r` a point projects: the row was dequantised by the point before. -/
def yv (r : Fin 256) (h : Fin 14) (l : Fin 128) : EReal :=
  Spec.y (xr m c (pt t) r) (nw m c (pt t)) (fun k => (iblk m c 3 t : Vec Ideal S5120x1792 .fp8e4m3) (ix2 k ⟨h.val * 128 + l.val, by omega⟩))
    ((iblk m c 4 t : Vec Ideal S1x1792 .f32) (ix2 0 ⟨h.val * 128 + l.val, by omega⟩))

/-- A head of the product of the previous point's dequantised rows is the specified head. -/
theorem hd_eq (X : Vec Ideal S256x5120 .bf16) (hX : ∀ b j, X (ix2 b j) = Spec.xs (xr m c (pt t) b) (nw m c (pt t)) j) (r : Fin 256) (h : Fin 14) (l : Fin 128) :
    Proj.hd (iblk m c 3 t) (iblk m c 4 t) X r h l = yv m c t r h l := by
  unfold Proj.hd yv Spec.y
  simp only [hX]

variable (ht0 : t.val ≠ 0)

include ht0

/-- The value heads a later point leaves. -/
theorem v (h : Fin 2) (r : Fin 256) (l : Fin 128) : (outsAt0 m c t.val t.isLt).2.2.1 (ix4 0 r h l) = yv m c t r ⟨12 + h.val, by omega⟩ l := by
  have ht : t.val < 65 := lt_of_lt_of_eq t.isLt N_0
  have h0 : ¬t.val % 65 = 0 := by omega
  by_cases h1 : t.val % 2 = 0
  · have h2 : ¬t.val % 2 = 1 := by omega
    rw [outsAt0_C m c t h0 h1 h2]
    dsimp only
    unfold out0_C_8
    rw [View.read_writes_junk_eq_canon]
    exact (CaseC.v ..).trans (hd_eq m c t _ (xsO m c (pt t) (by simp only [pt]; omega)) _ _ _)
  · have h2 : t.val % 2 = 1 := by omega
    rw [outsAt0_B m c t h0 h1 h2]
    dsimp only
    unfold out0_B_8
    rw [View.read_writes_junk_eq_canon]
    exact (CaseB.v ..).trans (hd_eq m c t _ (xsE m c (pt t) (by simp only [pt]; omega)) _ _ _)

variable (φ : Fin 64 → EReal) (hf : ∀ l : Fin 128, (iblk m c 5 t : Vec Ideal S1x128 .f32) (ix2 0 l) = φ ⟨l.val % 64, by omega⟩)

include hf

/-- The query heads a later point leaves. -/
theorem q (h : Fin 10) (r : Fin 256) (l : Fin 128) : (outsAt0 m c t.val t.isLt).1 (ix4 0 h r l) =
    Spec.rot (yv m c t r ⟨h.val, by omega⟩) (Proj.ang (iblk m c 0 t) (ba t) (bb t) φ r) l := by
  have ht : t.val < 65 := lt_of_lt_of_eq t.isLt N_0
  have h0 : ¬t.val % 65 = 0 := by omega
  by_cases h1 : t.val % 2 = 0
  · have h2 : ¬t.val % 2 = 1 := by omega
    rw [outsAt0_C m c t h0 h1 h2]
    dsimp only
    unfold out0_C_6
    rw [View.read_writes_junk_eq_canon]
    refine (CaseC.q (a := ba t) (b := bb t) (hoff := off1 t) (φ := φ) (hf := hf) ..).trans ?_
    exact congrArg (fun y => Spec.rot y _ l) (funext fun l => hd_eq m c t _ (xsO m c (pt t) (by simp only [pt]; omega)) _ _ l)
  · have h2 : t.val % 2 = 1 := by omega
    rw [outsAt0_B m c t h0 h1 h2]
    dsimp only
    unfold out0_B_6
    rw [View.read_writes_junk_eq_canon]
    refine (CaseB.q (a := ba t) (b := bb t) (hoff := off83 t) (φ := φ) (hf := hf) ..).trans ?_
    exact congrArg (fun y => Spec.rot y _ l) (funext fun l => hd_eq m c t _ (xsE m c (pt t) (by simp only [pt]; omega)) _ _ l)

/-- The key heads a later point leaves. -/
theorem k (h : Fin 2) (r : Fin 256) (l : Fin 128) : (outsAt0 m c t.val t.isLt).2.1 (ix4 0 r h l) =
    Spec.rot (yv m c t r ⟨10 + h.val, by omega⟩) (Proj.ang (iblk m c 0 t) (ba t) (bb t) φ r) l := by
  have ht : t.val < 65 := lt_of_lt_of_eq t.isLt N_0
  have h0 : ¬t.val % 65 = 0 := by omega
  by_cases h1 : t.val % 2 = 0
  · have h2 : ¬t.val % 2 = 1 := by omega
    rw [outsAt0_C m c t h0 h1 h2]
    dsimp only
    unfold out0_C_7
    rw [View.read_writes_junk_eq_canon]
    refine (CaseC.k (a := ba t) (b := bb t) (hoff := off1 t) (φ := φ) (hf := hf) ..).trans ?_
    exact congrArg (fun y => Spec.rot y _ l) (funext fun l => hd_eq m c t _ (xsO m c (pt t) (by simp only [pt]; omega)) _ _ l)
  · have h2 : t.val % 2 = 1 := by omega
    rw [outsAt0_B m c t h0 h1 h2]
    dsimp only
    unfold out0_B_7
    rw [View.read_writes_junk_eq_canon]
    refine (CaseB.k (a := ba t) (b := bb t) (hoff := off83 t) (φ := φ) (hf := hf) ..).trans ?_
    exact congrArg (fun y => Spec.rot y _ l) (funext fun l => hd_eq m c t _ (xsE m c (pt t) (by simp only [pt]; omega)) _ _ l)

end Cert.Proof.Points

end
-- ==== Proof.Out.lean ====
/- The five results as functions of the arguments: what both programs are shown to compute. -/
module

public import proofs.«01_k».proof.Proof.Gen.KernelIdeal
public import proofs.«01_k».proof.Proof.Spec

@[expose] public section

set_option maxRecDepth 16384
set_option backward.proofsInPublic true

noncomputable section

namespace Cert.Proof.Out

open Idealize.ShloMosaic Cert.KernelIdeal Cert.KernelIdeal.Gen

/-- The sixty-four rotary frequencies, as the host computes them. -/
def freq : FVec Ideal S64 .f32 :=
  Host.powf (broadcastInDim S64 ![] bcast_S_S64 (constant S_ .f32 0x48F42400#32))
    (Host.divf (Host.negf (mulf (broadcastInDim S64 ![] bcast_S_S64 (constant S_ .f32 0x40000000#32)) (sitofp .f32 (iotaInDim S64 32 0))))
      (broadcastInDim S64 ![] bcast_S_S64 (constant S_ .f32 0x43000000#32)))

variable (X : Vec Ideal S4x4096x5120 .bf16) (N : Vec Ideal S5120 .bf16) (W : Vec Ideal S5120x1792 .fp8e4m3) (S : Vec Ideal S1792 .f32) (P : Vec Ideal S4x4096 .i32)

/-- A row of activations. -/
def row (b : Fin 4) (s : Fin 4096) (k : Fin 5120) : EReal := X (ix3 b s k)

/-- The norm weights. -/
def nw (k : Fin 5120) : EReal := N (ix1 k)

/-- Lane `l` of head `h` of a row's projection. -/
def yv (b : Fin 4) (s : Fin 4096) (h : Fin 14) (l : Fin 128) : EReal :=
  Spec.y (row X b s) (nw N) (fun k => W (ix2 k ⟨h.val * 128 + l.val, by omega⟩)) (S (ix1 ⟨h.val * 128 + l.val, by omega⟩))

/-- A row's angles. -/
def ang (b : Fin 4) (s : Fin 4096) (l : Fin 64) : EReal := FloatOps.sitofp (F := Ideal) FTy.f32 (P (ix2 b s)) * freq (ix1 l)

/-- The query heads. -/
def q (b : Fin 4) (h : Fin 10) (s : Fin 4096) (l : Fin 128) : EReal := Spec.rot (yv X N W S b s ⟨h.val, by omega⟩) (ang P b s) l

/-- The key heads. -/
def k (b : Fin 4) (s : Fin 4096) (h : Fin 2) (l : Fin 128) : EReal := Spec.rot (yv X N W S b s ⟨10 + h.val, by omega⟩) (ang P b s) l

/-- The value heads. -/
def v (b : Fin 4) (s : Fin 4096) (h : Fin 2) (l : Fin 128) : EReal := yv X N W S b s ⟨12 + h.val, by omega⟩ l

/-- The codes. -/
def codes (b : Fin 4) (s : Fin 4096) (j : Fin 5120) : EReal := Spec.cd (row X b s) (nw N) j

/-- The scales. -/
def scale (b : Fin 4) (g : Fin 40) (s : Fin 4096) : EReal := Spec.sc (row X b s) (nw N) g

/-- The query result. -/
def qA : Vec Ideal S4x10x4096x128 .bf16 := fun z => q X N W S P (z 0) (z 1) (z 2) (z 3)

/-- The key result. -/
def kA : Vec Ideal S4x4096x2x128 .bf16 := fun z => k X N W S P (z 0) (z 1) (z 2) (z 3)

/-- The value result. -/
def vA : Vec Ideal S4x4096x2x128 .bf16 := fun z => v X N W S (z 0) (z 1) (z 2) (z 3)

/-- The code result. -/
def codesA : Vec Ideal S4x4096x5120 .fp8e4m3 := fun z => codes X N (z 0) (z 1) (z 2)

/-- The scale result. -/
def scaleA : Vec Ideal S4x40x4096 .f32 := fun z => scale X N (z 0) (z 1) (z 2)

end Cert.Proof.Out

end
-- ==== Proof.Arrays.lean ====
/- The kernel's five result arrays after the run are the results of `Out`. -/
module

public import proofs.«01_k».proof.Proof.Points
public import proofs.«01_k».proof.Proof.Out
public import Idealize.ShloMosaic.Lib.Pipeline.ValueKit

@[expose] public section

set_option maxRecDepth 16384
set_option backward.proofsInPublic true

noncomputable section

namespace Cert.Proof.Arrays

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- Which block of each input a point is given. -/
theorem idxI : ∀ t : Fin cfg0.N, win0_0.index t = ![0, 0] ∧ win0_1.index t = ![min t.val 63 / 16, min t.val 63 % 16, 0] ∧ win0_2.index t = ![0, 0] ∧ win0_3.index t = ![0, 0]
    ∧ win0_4.index t = ![0, 0] ∧ win0_5.index t = ![0, 0] := (by decide +kernel : ∀ t : Fin grid0.N, _)

/-- Which block of each output a point writes. -/
theorem idxO : ∀ t : Fin cfg0.N, win0_6.index t = ![(t.val - 1) / 16, 0, (t.val - 1) % 16, 0] ∧ win0_7.index t = ![(t.val - 1) / 16, (t.val - 1) % 16, 0, 0]
    ∧ win0_8.index t = ![(t.val - 1) / 16, (t.val - 1) % 16, 0, 0] ∧ win0_9.index t = ![min t.val 63 / 16, min t.val 63 % 16, 0]
    ∧ win0_10.index t = ![min t.val 63 / 16, 0, min t.val 63 % 16] := (by decide +kernel : ∀ t : Fin grid0.N, _)

/-- The norm weights at entry. -/
theorem V11 : (V m c main_v11 : Vec Ideal S1x5120 .f32) = broadcastInDim S1x5120 ![1] bcast_S5120_S1x5120_1 (extf (F := Ideal) .f32 (m ((c : Thread nD τ).loc main_arg1) : Vec Ideal S5120 .bf16) bitsLt_bf16_f32) := by
  unfold V; after_results; try rfl

/-- The weights' scales at entry. -/
theorem V12 : (V m c main_v12 : Vec Ideal S1x1792 .f32) = broadcastInDim S1x1792 ![1] bcast_S1792_S1x1792_1 (m ((c : Thread nD τ).loc main_arg3) : Vec Ideal S1792 .f32) := by
  unfold V; after_results; try rfl

/-- The frequencies at entry, twice over. -/
theorem V9 : (V m c main_v9 : Vec Ideal S1x128 .f32) = broadcastInDim S1x128 ![1] bcast_S128_S1x128_1 (concatenate S128 0 [⟨S64, Out.freq⟩, ⟨S64, Out.freq⟩] concatenates_S64_S64_S128_d0) := by
  unfold V; after_results; try rfl

variable (t : Fin cfg0.N)

/-- A block of activations is rows of the argument. -/
theorem b1 (b : Fin 256) (k : Fin 5120) (p : Fin 4) (s : Fin 4096) (hp : p.val = min t.val 63 / 16) (hs : s.val = min t.val 63 % 16 * 256 + b.val) :
    (iblk m c 1 t : Vec Ideal S1x256x5120 .bf16) (ix3 0 b k) = (m ((c : Thread nD τ).loc main_arg0) : Vec Ideal S4x4096x5120 .bf16) (ix3 p s k) := by
  blk_ext [iblk, V, idxI t]

/-- The norm weights' block. -/
theorem b2 (k : Fin 5120) : (iblk m c 2 t : Vec Ideal S1x5120 .f32) (ix2 0 k) = (m ((c : Thread nD τ).loc main_arg1) : Vec Ideal S5120 .bf16) (ix1 k) := by
  have h : (iblk m c 2 t : Vec Ideal S1x5120 .f32) (ix2 0 k) = (V m c main_v11 : Vec Ideal S1x5120 .f32) (ix2 0 k) := by
    blk_ext [iblk, idxI t]
  rw [h, V11]
  exact congrArg (m ((c : Thread nD τ).loc main_arg1) : Vec Ideal S5120 .bf16) (by funext i; fin_cases i; rfl)

/-- The weights' block. -/
theorem b3 (k : Fin 5120) (l : Fin 1792) : (iblk m c 3 t : Vec Ideal S5120x1792 .fp8e4m3) (ix2 k l) = (m ((c : Thread nD τ).loc main_arg2) : Vec Ideal S5120x1792 .fp8e4m3) (ix2 k l) := by
  blk_ext [iblk, V, idxI t]

/-- The weights' scales' block. -/
theorem b4 (l : Fin 1792) : (iblk m c 4 t : Vec Ideal S1x1792 .f32) (ix2 0 l) = (m ((c : Thread nD τ).loc main_arg3) : Vec Ideal S1792 .f32) (ix1 l) := by
  have h : (iblk m c 4 t : Vec Ideal S1x1792 .f32) (ix2 0 l) = (V m c main_v12 : Vec Ideal S1x1792 .f32) (ix2 0 l) := by
    blk_ext [iblk, idxI t]
  rw [h, V12]
  exact congrArg (m ((c : Thread nD τ).loc main_arg3) : Vec Ideal S1792 .f32) (by funext i; fin_cases i; rfl)

/-- The positions' block. -/
theorem b0 (a : Fin 4) (s : Fin 4096) : (iblk m c 0 t : Vec Ideal S4x4096 .i32) (ix2 a s) = (m ((c : Thread nD τ).loc main_arg4) : Vec Ideal S4x4096 .i32) (ix2 a s) := by
  blk_ext [iblk, V, idxI t]

/-- A vector laid twice over sixty-four lanes each, read at a lane. -/
theorem twice (x : FVec Ideal S64 .f32) (l : Fin 128) :
    broadcastInDim S1x128 ![1] bcast_S128_S1x128_1 (concatenate S128 0 [⟨S64, x⟩, ⟨S64, x⟩] concatenates_S64_S64_S128_d0) (ix2 0 l) = x (ix1 ⟨l.val % 64, by omega⟩) := by
  pointwise
  split <;> congr 3 <;> omega

/-- The frequencies' block. -/
theorem b5 (l : Fin 128) : (iblk m c 5 t : Vec Ideal S1x128 .f32) (ix2 0 l) = Out.freq (ix1 ⟨l.val % 64, by omega⟩) := by
  have h : (iblk m c 5 t : Vec Ideal S1x128 .f32) (ix2 0 l) = (V m c main_v9 : Vec Ideal S1x128 .f32) (ix2 0 l) := by
    blk_ext [iblk, idxI t]
  rw [h, V9]
  generalize Out.freq = x
  exact twice x l

/-- An index of a point's block of output 0, in the whole array. -/
theorem e6 (G : Vec Ideal S4x10x4096x128 .bf16) (h : Fin 10) (r : Fin 256) (l : Fin 128) (p : Fin 4) (s : Fin 4096) (hp : p.val = (t.val - 1) / 16) (hs : s.val = (t.val - 1) % 16 * 256 + r.val) :
    G ((win0_6.blk t).view.emb (ix4 0 h r l : S1x10x256x128.Idx)) = G (ix4 p h s l) := by
  blk_ext [idxO t]

/-- An index of a point's block of output 1, in the whole array. -/
theorem e7 (G : Vec Ideal S4x4096x2x128 .bf16) (h : Fin 2) (r : Fin 256) (l : Fin 128) (p : Fin 4) (s : Fin 4096) (hp : p.val = (t.val - 1) / 16) (hs : s.val = (t.val - 1) % 16 * 256 + r.val) :
    G ((win0_7.blk t).view.emb (ix4 0 r h l : S1x256x2x128.Idx)) = G (ix4 p s h l) := by
  blk_ext [idxO t]

/-- An index of a point's block of output 2, in the whole array. -/
theorem e8 (G : Vec Ideal S4x4096x2x128 .bf16) (h : Fin 2) (r : Fin 256) (l : Fin 128) (p : Fin 4) (s : Fin 4096) (hp : p.val = (t.val - 1) / 16) (hs : s.val = (t.val - 1) % 16 * 256 + r.val) :
    G ((win0_8.blk t).view.emb (ix4 0 r h l : S1x256x2x128.Idx)) = G (ix4 p s h l) := by
  blk_ext [idxO t]

/-- An index of a point's block of output 3, in the whole array. -/
theorem e9 (G : Vec Ideal S4x4096x5120 .fp8e4m3) (r : Fin 256) (j : Fin 5120) (p : Fin 4) (s : Fin 4096) (hp : p.val = min t.val 63 / 16) (hs : s.val = min t.val 63 % 16 * 256 + r.val) :
    G ((win0_9.blk t).view.emb (ix3 0 r j : S1x256x5120.Idx)) = G (ix3 p s j) := by
  blk_ext [idxO t]

/-- An index of a point's block of output 4, in the whole array. -/
theorem e10 (G : Vec Ideal S4x40x4096 .f32) (g : Fin 40) (r : Fin 256) (p : Fin 4) (s : Fin 4096) (hp : p.val = min t.val 63 / 16) (hs : s.val = min t.val 63 % 16 * 256 + r.val) :
    G ((win0_10.blk t).view.emb (ix3 0 g r : S1x40x256.Idx)) = G (ix3 p g s) := by
  blk_ext [idxO t]

/-- Output 0 is never written back at the first point. -/
theorem nz6 : ∀ t : Fin cfg0.N, (cfg0.win 6).flush t = true → t.val ≠ 0 := (by decide +kernel : ∀ t : Fin grid0.N, _)

/-- Output 1 is never written back at the first point. -/
theorem nz7 : ∀ t : Fin cfg0.N, (cfg0.win 7).flush t = true → t.val ≠ 0 := (by decide +kernel : ∀ t : Fin grid0.N, _)

/-- Output 2 is never written back at the first point. -/
theorem nz8 : ∀ t : Fin cfg0.N, (cfg0.win 8).flush t = true → t.val ≠ 0 := (by decide +kernel : ∀ t : Fin grid0.N, _)

/-- There are sixty-five points. -/
theorem lt65 : t.val < 65 := N_0 ▸ t.isLt

/-- A step's block of activations is sixteen rows' blocks of a batch. -/
theorem xr_eq (b : Fin 256) (p : Fin 4) (s : Fin 4096) (hp : p.val = min t.val 63 / 16) (hs : s.val = min t.val 63 % 16 * 256 + b.val) :
    Points.xr m c t b = Out.row (m ((c : Thread nD τ).loc main_arg0)) p s := funext fun k => b1 m c t b k p s hp hs

/-- A step's norm weights are the argument's. -/
theorem nw_eq : Points.nw m c t = Out.nw (m ((c : Thread nD τ).loc main_arg1)) := funext fun k => b2 m c t k

/-- A step's projected row is a row of the whole projection. -/
theorem yv_eq (ht0 : t.val ≠ 0) (r : Fin 256) (h : Fin 14) (p : Fin 4) (s : Fin 4096) (hp : p.val = (t.val - 1) / 16) (hs : s.val = (t.val - 1) % 16 * 256 + r.val) :
    Points.yv m c t r h = Out.yv (m ((c : Thread nD τ).loc main_arg0)) (m ((c : Thread nD τ).loc main_arg1)) (m ((c : Thread nD τ).loc main_arg2)) (m ((c : Thread nD τ).loc main_arg3)) p s h := by
  have h65 := lt65 t
  have hm : min (t.val - 1) 63 = t.val - 1 := by omega
  funext l
  unfold Points.yv Out.yv
  rw [xr_eq m c (Points.pt t) r p s (by rw [show (Points.pt t).val = t.val - 1 from rfl, hm]; exact hp) (by rw [show (Points.pt t).val = t.val - 1 from rfl, hm]; exact hs), nw_eq, b4]
  exact congrArg (fun M => Spec.y _ _ M _) (funext fun k => b3 m c t k _)

/-- A step's angles are a row's angles. -/
theorem ang_eq (ht0 : t.val ≠ 0) (r : Fin 256) (p : Fin 4) (s : Fin 4096) (hp : p.val = (t.val - 1) / 16) (hs : s.val = (t.val - 1) % 16 * 256 + r.val) :
    Proj.ang (iblk m c 0 t) (Points.ba t) (Points.bb t) (fun l => Out.freq (ix1 l)) r = Out.ang (m ((c : Thread nD τ).loc main_arg4)) p s := by
  funext l
  unfold Proj.ang Out.ang
  rw [b0 m c t]
  congr 3
  exact congr (congrArg ix2 (Fin.ext hp.symm)) (Fin.ext hs.symm)

/-- The query block a step leaves is its place in the query result. -/
theorem pt6 (ht0 : t.val ≠ 0) (h : Fin 10) (r : Fin 256) (l : Fin 128) :
    (outsAt0 m c t.val t.isLt).1 (ix4 0 h r l) = Out.qA (m ((c : Thread nD τ).loc main_arg0)) (m ((c : Thread nD τ).loc main_arg1)) (m ((c : Thread nD τ).loc main_arg2)) (m ((c : Thread nD τ).loc main_arg3)) (m ((c : Thread nD τ).loc main_arg4)) ((win0_6.blk t).view.emb (ix4 0 h r l : S1x10x256x128.Idx)) := by
  have h65 := lt65 t
  obtain ⟨p, hp⟩ : ∃ p : Fin 4, p.val = (t.val - 1) / 16 := ⟨⟨(t.val - 1) / 16, by omega⟩, rfl⟩
  obtain ⟨s, hs⟩ : ∃ s : Fin 4096, s.val = (t.val - 1) % 16 * 256 + r.val := ⟨⟨(t.val - 1) % 16 * 256 + r.val, by omega⟩, rfl⟩
  refine Eq.trans ?_ (e6 t (Out.qA (m ((c : Thread nD τ).loc main_arg0)) (m ((c : Thread nD τ).loc main_arg1)) (m ((c : Thread nD τ).loc main_arg2)) (m ((c : Thread nD τ).loc main_arg3)) (m ((c : Thread nD τ).loc main_arg4))) h r l p s hp hs).symm
  refine Eq.trans (Points.q m c t ht0 (fun l => Out.freq (ix1 l)) (fun l => b5 m c t l) h r l) ?_
  show _ = Out.q (m ((c : Thread nD τ).loc main_arg0)) (m ((c : Thread nD τ).loc main_arg1)) (m ((c : Thread nD τ).loc main_arg2)) (m ((c : Thread nD τ).loc main_arg3)) (m ((c : Thread nD τ).loc main_arg4)) p h s l
  unfold Out.q
  rw [yv_eq m c t ht0 r _ p s hp hs, ang_eq m c t ht0 r p s hp hs]

/-- The query heads' array after the run. -/
theorem arr6 : (dats m 0 c).arrAt 6 (cfgs 0).N = Out.qA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht0 := nz6 t hf
  blk_simp
  rw [after0_6]
  generalize hy : (y : S1x10x256x128.Idx) = z
  obtain ⟨a, b, d, e, rfl⟩ : ∃ (a : Fin 1) (b : Fin 10) (d : Fin 256) (e : Fin 128), z = ix4 a b d e := ⟨z 0, z 1, z 2, z 3, eq_ix4 z⟩
  obtain rfl : a = 0 := Subsingleton.elim _ _
  exact pt6 m c t ht0 b d e

/-- The key block a step leaves is its place in the key result. -/
theorem pt7 (ht0 : t.val ≠ 0) (h : Fin 2) (r : Fin 256) (l : Fin 128) :
    (outsAt0 m c t.val t.isLt).2.1 (ix4 0 r h l) = Out.kA (m ((c : Thread nD τ).loc main_arg0)) (m ((c : Thread nD τ).loc main_arg1)) (m ((c : Thread nD τ).loc main_arg2)) (m ((c : Thread nD τ).loc main_arg3)) (m ((c : Thread nD τ).loc main_arg4)) ((win0_7.blk t).view.emb (ix4 0 r h l : S1x256x2x128.Idx)) := by
  have h65 := lt65 t
  obtain ⟨p, hp⟩ : ∃ p : Fin 4, p.val = (t.val - 1) / 16 := ⟨⟨(t.val - 1) / 16, by omega⟩, rfl⟩
  obtain ⟨s, hs⟩ : ∃ s : Fin 4096, s.val = (t.val - 1) % 16 * 256 + r.val := ⟨⟨(t.val - 1) % 16 * 256 + r.val, by omega⟩, rfl⟩
  refine Eq.trans ?_ (e7 t (Out.kA (m ((c : Thread nD τ).loc main_arg0)) (m ((c : Thread nD τ).loc main_arg1)) (m ((c : Thread nD τ).loc main_arg2)) (m ((c : Thread nD τ).loc main_arg3)) (m ((c : Thread nD τ).loc main_arg4))) h r l p s hp hs).symm
  refine Eq.trans (Points.k m c t ht0 (fun l => Out.freq (ix1 l)) (fun l => b5 m c t l) h r l) ?_
  show _ = Out.k (m ((c : Thread nD τ).loc main_arg0)) (m ((c : Thread nD τ).loc main_arg1)) (m ((c : Thread nD τ).loc main_arg2)) (m ((c : Thread nD τ).loc main_arg3)) (m ((c : Thread nD τ).loc main_arg4)) p s h l
  unfold Out.k
  rw [yv_eq m c t ht0 r _ p s hp hs, ang_eq m c t ht0 r p s hp hs]

/-- The key heads' array after the run. -/
theorem arr7 : (dats m 0 c).arrAt 7 (cfgs 0).N = Out.kA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht0 := nz7 t hf
  blk_simp
  rw [after0_7]
  generalize hy : (y : S1x256x2x128.Idx) = z
  obtain ⟨a, b, d, e, rfl⟩ : ∃ (a : Fin 1) (b : Fin 256) (d : Fin 2) (e : Fin 128), z = ix4 a b d e := ⟨z 0, z 1, z 2, z 3, eq_ix4 z⟩
  obtain rfl : a = 0 := Subsingleton.elim _ _
  exact pt7 m c t ht0 d b e

/-- The value block a step leaves is its place in the value result. -/
theorem pt8 (ht0 : t.val ≠ 0) (h : Fin 2) (r : Fin 256) (l : Fin 128) :
    (outsAt0 m c t.val t.isLt).2.2.1 (ix4 0 r h l) = Out.vA (m ((c : Thread nD τ).loc main_arg0)) (m ((c : Thread nD τ).loc main_arg1)) (m ((c : Thread nD τ).loc main_arg2)) (m ((c : Thread nD τ).loc main_arg3)) ((win0_8.blk t).view.emb (ix4 0 r h l : S1x256x2x128.Idx)) := by
  have h65 := lt65 t
  obtain ⟨p, hp⟩ : ∃ p : Fin 4, p.val = (t.val - 1) / 16 := ⟨⟨(t.val - 1) / 16, by omega⟩, rfl⟩
  obtain ⟨s, hs⟩ : ∃ s : Fin 4096, s.val = (t.val - 1) % 16 * 256 + r.val := ⟨⟨(t.val - 1) % 16 * 256 + r.val, by omega⟩, rfl⟩
  refine Eq.trans ?_ (e8 t (Out.vA (m ((c : Thread nD τ).loc main_arg0)) (m ((c : Thread nD τ).loc main_arg1)) (m ((c : Thread nD τ).loc main_arg2)) (m ((c : Thread nD τ).loc main_arg3))) h r l p s hp hs).symm
  refine Eq.trans (Points.v m c t ht0 h r l) ?_
  show _ = Out.v (m ((c : Thread nD τ).loc main_arg0)) (m ((c : Thread nD τ).loc main_arg1)) (m ((c : Thread nD τ).loc main_arg2)) (m ((c : Thread nD τ).loc main_arg3)) p s h l
  unfold Out.v
  rw [yv_eq m c t ht0 r _ p s hp hs]

/-- The value heads' array after the run. -/
theorem arr8 : (dats m 0 c).arrAt 8 (cfgs 0).N = Out.vA (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have ht0 := nz8 t hf
  blk_simp
  rw [after0_8]
  generalize hy : (y : S1x256x2x128.Idx) = z
  obtain ⟨a, b, d, e, rfl⟩ : ∃ (a : Fin 1) (b : Fin 256) (d : Fin 2) (e : Fin 128), z = ix4 a b d e := ⟨z 0, z 1, z 2, z 3, eq_ix4 z⟩
  obtain rfl : a = 0 := Subsingleton.elim _ _
  exact pt8 m c t ht0 d b e

/-- The code block a step leaves is its place in the code result. -/
theorem pt9 (j : Fin 5120) (r : Fin 256) :
    (outsAt0 m c t.val t.isLt).2.2.2.1 (ix3 0 r j) = Out.codesA (m ((c : Thread nD τ).loc main_arg0)) (m ((c : Thread nD τ).loc main_arg1)) ((win0_9.blk t).view.emb (ix3 0 r j : S1x256x5120.Idx)) := by
  have h65 := lt65 t
  obtain ⟨p, hp⟩ : ∃ p : Fin 4, p.val = min t.val 63 / 16 := ⟨⟨min t.val 63 / 16, by omega⟩, rfl⟩
  obtain ⟨s, hs⟩ : ∃ s : Fin 4096, s.val = min t.val 63 % 16 * 256 + r.val := ⟨⟨min t.val 63 % 16 * 256 + r.val, by omega⟩, rfl⟩
  refine Eq.trans ?_ (e9 t (Out.codesA (m ((c : Thread nD τ).loc main_arg0)) (m ((c : Thread nD τ).loc main_arg1))) r j p s hp hs).symm
  refine Eq.trans (Points.codes m c t r j) ?_
  show _ = Out.codes (m ((c : Thread nD τ).loc main_arg0)) (m ((c : Thread nD τ).loc main_arg1)) p s j
  unfold Out.codes
  rw [xr_eq m c t r p s hp hs, nw_eq]

/-- The code array after the run. -/
theorem arr9 : (dats m 0 c).arrAt 9 (cfgs 0).N = Out.codesA (m ((c : Thread nD τ).loc main_arg0)) (m ((c : Thread nD τ).loc main_arg1)) := by
  refine (dats m 0 c).arrAt_eq_of_covers 9 _ (by decide +kernel) fun t hf y => ?_
  blk_simp
  rw [after0_9]
  generalize hy : (y : S1x256x5120.Idx) = z
  obtain ⟨a, b, d, rfl⟩ : ∃ (a : Fin 1) (b : Fin 256) (d : Fin 5120), z = ix3 a b d := ⟨z 0, z 1, z 2, eq_ix3 z⟩
  obtain rfl : a = 0 := Subsingleton.elim _ _
  exact pt9 m c t d b

/-- The scale block a step leaves is its place in the scale result. -/
theorem pt10 (j : Fin 40) (r : Fin 256) :
    (outsAt0 m c t.val t.isLt).2.2.2.2.1 (ix3 0 j r) = Out.scaleA (m ((c : Thread nD τ).loc main_arg0)) (m ((c : Thread nD τ).loc main_arg1)) ((win0_10.blk t).view.emb (ix3 0 j r : S1x40x256.Idx)) := by
  have h65 := lt65 t
  obtain ⟨p, hp⟩ : ∃ p : Fin 4, p.val = min t.val 63 / 16 := ⟨⟨min t.val 63 / 16, by omega⟩, rfl⟩
  obtain ⟨s, hs⟩ : ∃ s : Fin 4096, s.val = min t.val 63 % 16 * 256 + r.val := ⟨⟨min t.val 63 % 16 * 256 + r.val, by omega⟩, rfl⟩
  refine Eq.trans ?_ (e10 t (Out.scaleA (m ((c : Thread nD τ).loc main_arg0)) (m ((c : Thread nD τ).loc main_arg1))) j r p s hp hs).symm
  refine Eq.trans (Points.scale m c t j r) ?_
  show _ = Out.scale (m ((c : Thread nD τ).loc main_arg0)) (m ((c : Thread nD τ).loc main_arg1)) p j s
  unfold Out.scale
  rw [xr_eq m c t r p s hp hs, nw_eq]

/-- The scale array after the run. -/
theorem arr10 : (dats m 0 c).arrAt 10 (cfgs 0).N = Out.scaleA (m ((c : Thread nD τ).loc main_arg0)) (m ((c : Thread nD τ).loc main_arg1)) := by
  refine (dats m 0 c).arrAt_eq_of_covers 10 _ (by decide +kernel) fun t hf y => ?_
  blk_simp
  rw [after0_10]
  generalize hy : (y : S1x40x256.Idx) = z
  obtain ⟨a, b, d, rfl⟩ : ∃ (a : Fin 1) (b : Fin 40) (d : Fin 256), z = ix3 a b d := ⟨z 0, z 1, z 2, eq_ix3 z⟩
  obtain rfl : a = 0 := Subsingleton.elim _ _
  exact pt10 m c t b d

end Cert.Proof.Arrays

end
-- ==== Proof.RefValue.lean ====
/- The reference's results over the extended reals, index by index: each is a function of one row of the input. -/
module

public import proofs.«01_k».proof.Proof.Gen.ReferenceIdeal.Frame
public import proofs.«01_k».proof.Proof.Spec

@[expose] public section

set_option maxRecDepth 16384
set_option backward.proofsInPublic true

noncomputable section

namespace Cert.Proof.Ref

open Idealize.ShloMosaic Cert.ReferenceIdeal Cert.ReferenceIdeal.Gen

variable (P0 : Vec Ideal S16384x5120 .bf16) (P1 : Vec Ideal S1x5120 .f32) (P2 : Vec Ideal S5120x1792 .fp8e4m3)
  (P3 : Vec Ideal S1x1792 .f32) (P4 : Vec Ideal S4x4096 .i32) (P5 : Vec Ideal S1x64 .f32)

/-- The activations, widened. -/
def xf : FVec Ideal S16384x5120 .f32 := extf .f32 (shapeCast S16384x5120 P0 shapeCasts_S16384x5120_S16384x5120) bitsLt_bf16_f32

/-- Each row's mean square. -/
def ms : FVec Ideal S16384x1 .f32 := divf (shapeCast S16384x1 (multiReduction .add [1] S16384 (mulf (xf P0) (xf P0)) 0x00000000#32 reduces_S16384x5120_S16384 (.inl rfl) rfl) shapeCasts_S16384_S16384x1) (broadcast S16384x1 (Scalar.ofBits .f32 0x45A00000#32))

/-- One over its root. -/
def rs : FVec Ideal S16384x1 .f32 := rsqrt (addf (ms P0) (broadcast S16384x1 (Scalar.ofBits .f32 0x3727C5AC#32)))

/-- The rows, normalised and weighted. -/
def hV : FVec Ideal S16384x5120 .f32 := mulf (mulf (xf P0) (broadcastTo S16384x5120 (rs P0) broadcasts_S16384x1_S16384x5120)) (broadcastTo S16384x5120 (shapeCast S1x5120 P1 shapeCasts_S1x5120_S1x5120) broadcasts_S1x5120_S16384x5120)

/-- The normalised rows in groups. -/
theorem pay4_eq : k0_pay4 P0 P1 = shapeCast S16384x40x128 (hV P0 P1) shapeCasts_S16384x5120_S16384x40x128 := rfl

/-- The widened activations at an index. -/
theorem xf_apply (n : Fin 16384) (k : Fin 5120) : xf P0 (ix2 n k) = P0 (ix2 n k) := by pointwise [xf]

/-- The mean square at a row. -/
theorem ms_apply (n : Fin 16384) : ms P0 (ix2 n 0) = Ideal.div (∑ k, P0 (ix2 n k) * P0 (ix2 n k)) (Ideal.ofBits .f32 0x45A00000#32) := by pointwise [ms, xf_apply]

/-- One over its root at a row. -/
theorem rs_apply (n : Fin 16384) : rs P0 (ix2 n 0) = Ideal.rsqrt (ms P0 (ix2 n 0) + Ideal.ofBits .f32 0x3727C5AC#32) := by pointwise [rs]

/-- The normalised rows at an index. -/
theorem hV_apply (n : Fin 16384) (k : Fin 5120) : hV P0 P1 (ix2 n k) = P0 (ix2 n k) * rs P0 (ix2 n 0) * P1 (ix2 0 k) := by pointwise [hV, xf_apply]

/-- The grouped rows at an index. -/
theorem pay4_apply (n : Fin 16384) (g : Fin 40) (l : Fin 128) : k0_pay4 P0 P1 (ix3 n g l) = hV P0 P1 (ix2 n ⟨g.val * 128 + l.val, by omega⟩) := by rw [pay4_eq]; pointwise

variable (H : FVec Ideal S16384x40x128 .f32) (T : FVec Ideal S16384x40 .f32)
/-- Each group's largest magnitude. -/
def am : FVec Ideal S16384x40 .f32 := multiReduction .maximumf [2] S16384x40 (absf H) 0xFF800000#32 reduces_S16384x40x128_S16384x40 (.inl rfl) rfl

/-- It divided by the largest code. -/
def tV : FVec Ideal S16384x40 .f32 := mulf T (broadcast S16384x40 (Scalar.ofBits .f32 0x3B124925#32))

/-- The scale's exponent. -/
def eV : FVec Ideal S16384x40 .f32 := select (cmpf .olt T (broadcast S16384x40 (Scalar.ofBits .f32 0x00800000#32))) (broadcast S16384x40 (Scalar.ofBits .f32 0x00000000#32)) (addf (floor (divf (log T) (broadcast S16384x40 (Named.named κ "ln_2" 0x3F317218#32)))) (broadcast S16384x40 (Scalar.ofBits .f32 0x3F800000#32)))

/-- The inverse scale. -/
def iV : FVec Ideal S16384x40 .f32 := exp2 (subf (broadcast S16384x40 (Scalar.ofBits .f32 0x00000000#32)) T)

/-- The codes. -/
def cV : FVec Ideal S16384x40x128 .fp8e4m3 := truncf .fp8e4m3 (minimumf (broadcast S16384x40x128 (Scalar.ofBits .f32 0x43E00000#32)) (maximumf (broadcast S16384x40x128 (Scalar.ofBits .f32 0xC3E00000#32)) (mulf H (broadcastTo S16384x40x128 (shapeCast S16384x40x1 T shapeCasts_S16384x40_S16384x40x1) broadcasts_S16384x40x1_S16384x40x128)))) bitsLt_fp8e4m3_f32

/-- The exponents, in steps. -/
theorem pay5_eq : k0_pay5 P0 P1 = eV (tV (am (k0_pay4 P0 P1))) := rfl

/-- The codes, in steps. -/
theorem pay7_eq : k0_pay7 P0 P1 = cV (k0_pay4 P0 P1) (iV (k0_pay5 P0 P1)) := rfl

/-- The scales, in steps. -/
theorem pay6_eq : k0_pay6 P0 P1 = exp2 (k0_pay5 P0 P1) := rfl

/-- A group's largest magnitude, as a fold. -/
theorem am_apply (n : Fin 16384) (g : Fin 40) : am H (ix2 n g) = Finset.fold max (Ideal.ofBits FTy.f32 4286578688#32) (fun x => FloatOps.absf (H (ix3 n g x))) Finset.univ := by pointwise [am]

/-- It divided by the largest code, at a group. -/
theorem tV_apply (n : Fin 16384) (g : Fin 40) : tV T (ix2 n g) = T (ix2 n g) * Ideal.ofBits FTy.f32 991054117#32 := by pointwise [tV]

/-- The exponent at a group. -/
theorem eV_apply (n : Fin 16384) (g : Fin 40) : eV T (ix2 n g) = if T (ix2 n g) < Ideal.ofBits FTy.f32 8388608#32 then 0 else Ideal.liftRound Int.floor (Ideal.div (Ideal.log (T (ix2 n g))) ((Real.log 2 : ℝ) : EReal)) + 1 := by
  have h : (Named.named (F := Ideal) (φ := .f32) κ "ln_2" 0x3F317218#32 : EReal) = ((Real.log 2 : ℝ) : EReal) := IdealRules.named_const.ideal_named_scalar κ "ln_2" _ _ rfl
  rw [← h]
  pointwise [eV]
/-- The inverse scale at a group. -/
theorem iV_apply (n : Fin 16384) (g : Fin 40) : iV T (ix2 n g) = FloatOps.exp2 (0 - T (ix2 n g)) := by pointwise [iV]

/-- The code at an index. -/
theorem cV_apply (n : Fin 16384) (g : Fin 40)  (l : Fin 128) : cV H T (ix3 n g l) = min (Ideal.ofBits FTy.f32 1138753536#32) (max (Ideal.ofBits FTy.f32 3286237184#32) (H (ix3 n g l) * T (ix2 n g))) := by pointwise [cV]

variable (v32 : FVec Ideal S16384x40 .f32) (v43 : FVec Ideal S16384x40x128 .fp8e4m3)
/-- The dequantised rows in groups. -/
def xs3 : FVec Ideal S16384x40x128 .bf16 := mulf (extf .bf16 v43 bitsLt_fp8e4m3_bf16) (broadcastTo S16384x40x128 (shapeCast S16384x40x1 (truncf .bf16 v32 bitsLt_bf16_f32) shapeCasts_S16384x40_S16384x40x1) broadcasts_S16384x40x1_S16384x40x128)

/-- The dequantised rows. -/
def xsV : FVec Ideal S16384x5120 .bf16 := shapeCast S16384x5120 (xs3 v32 v43) shapeCasts_S16384x40x128_S16384x5120

/-- Their product with the weights. -/
def mmV : FVec Ideal S16384x1792 .f32 := matmul dot_S16384x5120_S5120x1792_S16384x1792_1_0_0_1_n_n none (xsV v32 v43) (extf .bf16 P2 bitsLt_fp8e4m3_bf16 : FVec Ideal S5120x1792 .bf16) (constant S16384x1792 .f32 0x00000000#32)

/-- The product scaled by the weights' scales. -/
def yV : FVec Ideal S16384x1792 .f32 := mulf (mmV P2 v32 v43) (broadcastTo S16384x1792 (shapeCast S1x1792 P3 shapeCasts_S1x1792_S1x1792) broadcasts_S1x1792_S16384x1792)

/-- The scaled product in heads. -/
theorem pay8_eq : k0_pay8 v32 v43 P2 P3 = shapeCast S16384x14x128 (yV P2 P3 v32 v43) shapeCasts_S16384x1792_S16384x14x128 := rfl

/-- A dequantised value in its group. -/
theorem xs3_apply (n : Fin 16384) (g : Fin 40) (l : Fin 128) : xs3 v32 v43 (ix3 n g l) = v43 (ix3 n g l) * v32 (ix2 n g) := by pointwise [xs3]

/-- A dequantised value in its row. -/
theorem xsV_apply (n : Fin 16384) (k : Fin 5120) : xsV v32 v43 (ix2 n k) = xs3 v32 v43 (ix3 n ⟨k.val / 128, by omega⟩ ⟨k.val % 128, by omega⟩) := by pointwise [xsV]

/-- The product at an index. -/
theorem mmV_apply (n : Fin 16384) (c : Fin 1792) : mmV P2 v32 v43 (ix2 n c) = ∑ k, xsV v32 v43 (ix2 n k) * P2 (ix2 k c) := by pointwise [mmV]

/-- The scaled product at an index. -/
theorem yV_apply (n : Fin 16384) (c : Fin 1792) : yV P2 P3 v32 v43 (ix2 n c) = mmV P2 v32 v43 (ix2 n c) * P3 (ix2 0 c) := by pointwise [yV]

/-- A head's lane of the scaled product. -/
theorem pay8_apply (n : Fin 16384) (h : Fin 14) (l : Fin 128) : k0_pay8 v32 v43 P2 P3 (ix3 n h l) = yV P2 P3 v32 v43 (ix2 n ⟨h.val * 128 + l.val, by omega⟩) := by rw [pay8_eq]; pointwise

/-- The angles. -/
def angV : FVec Ideal S16384x64 .f32 := mulf (broadcastTo S16384x64 (sitofp .f32 (shapeCast S16384x1 P4 shapeCasts_S4x4096_S16384x1 : IVec S16384x1 32)) broadcasts_S16384x1_S16384x64) (broadcastTo S16384x64 (shapeCast S1x64 P5 shapeCasts_S1x64_S1x64) broadcasts_S1x64_S16384x64)

/-- The angle at a row and a lane. -/
theorem ang_apply (n : Fin 16384) (l : Fin 64) : angV P4 P5 (ix2 n l) = FloatOps.sitofp FTy.f32 (P4 (ix2 ⟨n.val / 4096, by omega⟩ ⟨n.val % 4096, by omega⟩)) * P5 (ix2 0 l) := by pointwise [angV]
variable (Y : FVec Ideal S16384x14x128 .f32) (A : FVec Ideal S16384x64 .f32)
/-- The lower halves of the heads to be turned. -/
def lo : FVec Ideal S16384x12x64 .f32 := extractStridedSlice S16384x12x64 ![0, 0, 0] Y slices_S16384x14x128_o0_0_0_S16384x12x64

/-- Their upper halves. -/
def hi : FVec Ideal S16384x12x64 .f32 := extractStridedSlice S16384x12x64 ![0, 0, 64] Y slices_S16384x14x128_o0_0_64_S16384x12x64

/-- A row's value for each of the heads. -/
def br : FVec Ideal S16384x12x64 .f32 := broadcastTo S16384x12x64 (shapeCast S16384x1x64 A shapeCasts_S16384x64_S16384x1x64) broadcasts_S16384x1x64_S16384x12x64

/-- A lower half at an index. -/
theorem lo_apply (n : Fin 16384) (h : Fin 12) (l : Fin 64) : lo Y (ix3 n h l) = Y (ix3 n ⟨h.val, by omega⟩ ⟨l.val, by omega⟩) := by pointwise [lo]

/-- An upper half at an index. -/
theorem hi_apply (n : Fin 16384) (h : Fin 12) (l : Fin 64) : hi Y (ix3 n h l) = Y (ix3 n ⟨h.val, by omega⟩ ⟨64 + l.val, by omega⟩) := by pointwise [hi]

/-- A row's value at a head. -/
theorem br_apply (n : Fin 16384) (h : Fin 12) (l : Fin 64) : br A (ix3 n h l) = A (ix2 n l) := by pointwise [br]

/-- The turned heads. -/
def rotV : FVec Ideal S16384x12x128 .bf16 := truncf .bf16 (concatenate S16384x12x128 2 [⟨S16384x12x64, subf (mulf (lo Y) (br (cos A))) (mulf (hi Y) (br (sin A)))⟩, ⟨S16384x12x64, addf (mulf (hi Y) (br (cos A))) (mulf (lo Y) (br (sin A)))⟩] concatenates_S16384x12x64_S16384x12x64_S16384x12x128_d2) bitsLt_bf16_f32

/-- The turned heads, in steps. -/
theorem pay9_eq (v32 : FVec Ideal S16384x40 .f32) (v43 : FVec Ideal S16384x40x128 .fp8e4m3) : k0_pay9 v32 v43 P2 P3 P4 P5 = rotV (k0_pay8 v32 v43 P2 P3) (angV P4 P5) := rfl

/-- A turned head at a lane. -/
theorem rot_apply (n : Fin 16384) (h : Fin 12) (l : Fin 128) : rotV Y A (ix3 n h l) =
    Spec.rot (fun l => Y (ix3 n ⟨h.val, by omega⟩ l)) (fun l => A (ix2 n l)) l := by
  rw [Spec.rot]
  pointwise [rotV, lo_apply, hi_apply, br_apply]
  split
  · rfl
  · have e : (⟨64 + (l.val - 64), by omega⟩ : Fin 128) = l := Fin.ext (by simp only; omega)
    rw [e]

variable (R : FVec Ideal S16384x12x128 .bf16)
/-- The query heads, laid out. -/
def qV : FVec Ideal S4x10x4096x128 .bf16 := transpose S4x10x4096x128 [0, 2, 1, 3] (shapeCast S4x4096x10x128 (extractStridedSlice S16384x10x128 ![0, 0, 0] R slices_S16384x12x128_o0_0_0_S16384x10x128) shapeCasts_S16384x10x128_S4x4096x10x128) transposes_S4x4096x10x128_p0_2_1_3_S4x10x4096x128

/-- The key heads, laid out. -/
def kV : FVec Ideal S4x4096x2x128 .bf16 := shapeCast S4x4096x2x128 (extractStridedSlice S16384x2x128 ![0, 10, 0] R slices_S16384x12x128_o0_10_0_S16384x2x128) shapeCasts_S16384x2x128_S4x4096x2x128

/-- A query head at an index. -/
theorem qV_apply (b : Fin 4) (h : Fin 10) (s : Fin 4096) (l : Fin 128) : qV R (ix4 b h s l) = R (ix3 ⟨b.val * 4096 + s.val, by omega⟩ ⟨h.val, by omega⟩ l) := by pointwise [qV]

/-- A key head at an index. -/
theorem kV_apply (b : Fin 4) (h : Fin 2) (s : Fin 4096) (l : Fin 128) : kV R (ix4 b s h l) = R (ix3 ⟨b.val * 4096 + s.val, by omega⟩ ⟨10 + h.val, by omega⟩ l) := by pointwise [kV]

/-- A value head at an index. -/
theorem pay1_apply (Y : FVec Ideal S16384x14x128 .f32) (b : Fin 4) (h : Fin 2) (s : Fin 4096) (l : Fin 128) : k0_pay1 Y (ix4 b s h l) = Y (ix3 ⟨b.val * 4096 + s.val, by omega⟩ ⟨12 + h.val, by omega⟩ l) := by pointwise [k0_pay1]

/-- The laid-out codes at an index. -/
theorem pay2_apply (Y : FVec Ideal S16384x40x128 .fp8e4m3) (b : Fin 4) (s : Fin 4096) (k : Fin 5120) : k0_pay2 Y (ix3 b s k) = Y (ix3 ⟨b.val * 4096 + s.val, by omega⟩ ⟨k.val / 128, by omega⟩ ⟨k.val % 128, by omega⟩) := by pointwise [k0_pay2]

/-- The laid-out scales at an index. -/
theorem pay3_apply (Y : FVec Ideal S16384x40 .f32) (b : Fin 4) (s : Fin 4096) (g : Fin 40) : k0_pay3 Y (ix3 b g s) = Y (ix2 ⟨b.val * 4096 + s.val, by omega⟩ g) := by pointwise [k0_pay3]

/-- The query result, in steps. -/
theorem pay10_eq (v32 : FVec Ideal S16384x40 .f32) (v43 : FVec Ideal S16384x40x128 .fp8e4m3) : k0_pay10 v32 v43 P2 P3 P4 P5 = qV (k0_pay9 v32 v43 P2 P3 P4 P5) := rfl

/-- The key result, in steps. -/
theorem pay11_eq (v32 : FVec Ideal S16384x40 .f32) (v43 : FVec Ideal S16384x40x128 .fp8e4m3) : k0_pay11 v32 v43 P2 P3 P4 P5 = kV (k0_pay9 v32 v43 P2 P3 P4 P5) := rfl

/-- A power of two at an index. -/
theorem exp2_apply (V : FVec Ideal S16384x40 .f32) (n : Fin 16384) (g : Fin 40) : exp2 V (ix2 n g) = FloatOps.exp2 (F := Ideal) (φ := .f32) (V (ix2 n g)) := rfl

/-- The normalised row. -/
theorem hV_row (n : Fin 16384) (k : Fin 5120) : hV P0 P1 (ix2 n k) = Spec.h (fun k => P0 (ix2 n k)) (fun k => P1 (ix2 0 k)) k := by
  rw [hV_apply, rs_apply, ms_apply]; rfl

/-- The exponent, as specified. -/
theorem pay5_row (n : Fin 16384) (g : Fin 40) : k0_pay5 P0 P1 (ix2 n g) = Spec.ex (Spec.am (fun k => P0 (ix2 n k)) (fun k => P1 (ix2 0 k)) g) := by
  rw [pay5_eq, eV_apply, tV_apply, am_apply, Spec.ex, Spec.am]
  simp only [pay4_apply, hV_row]
  rfl

/-- The scale of group `g` of row `n`. -/
theorem scale_row (n : Fin 16384) (g : Fin 40) : k0_pay6 P0 P1 (ix2 n g) = Spec.sc (fun k => P0 (ix2 n k)) (fun k => P1 (ix2 0 k)) g := by
  rw [pay6_eq]; exact (exp2_apply _ n g).trans (congrArg _ (pay5_row P0 P1 n g))

/-- The codes of row `n`. -/
theorem code_row (n : Fin 16384) (g : Fin 40) (l : Fin 128) :
    k0_pay7 P0 P1 (ix3 n g l) = Spec.cd (fun k => P0 (ix2 n k)) (fun k => P1 (ix2 0 k)) (Spec.col g l) := by
  rw [pay7_eq, cV_apply, iV_apply, pay5_row, pay4_apply, hV_row, Spec.cd, Spec.iv,
    show Spec.grp (Spec.col g l) = g from Fin.ext (by simp only [Spec.grp, Spec.col]; omega)]
  rfl

/-- The dequantised row. -/
theorem xs_row (n : Fin 16384) (k : Fin 5120) :
    xsV (k0_pay6 P0 P1) (k0_pay7 P0 P1) (ix2 n k) = Spec.xs (fun k => P0 (ix2 n k)) (fun k => P1 (ix2 0 k)) k := by
  rw [xsV_apply, xs3_apply, code_row, scale_row, Spec.xs,
    show Spec.col ⟨k.val / 128, by omega⟩ ⟨k.val % 128, by omega⟩ = k from Fin.ext (by simp only [Spec.col]; omega)]
  rfl

/-- The projected row: head `h`, lane `l`. -/
def Yr (n : Fin 16384) (h : Fin 14) (l : Fin 128) : EReal :=
  Spec.y (fun k => P0 (ix2 n k)) (fun k => P1 (ix2 0 k)) (fun k => P2 (ix2 k ⟨h.val * 128 + l.val, by omega⟩)) (P3 (ix2 0 ⟨h.val * 128 + l.val, by omega⟩))

/-- The angles of row `n`. -/
def ang (n : Fin 16384) (l : Fin 64) : EReal :=
  FloatOps.sitofp (F := Ideal) FTy.f32 (P4 (ix2 ⟨n.val / 4096, by omega⟩ ⟨n.val % 4096, by omega⟩)) * P5 (ix2 0 l)

/-- The scaled product, as specified. -/
theorem y_row (n : Fin 16384) (h : Fin 14) (l : Fin 128) : k0_pay8 (k0_pay6 P0 P1) (k0_pay7 P0 P1) P2 P3 (ix3 n h l) = Yr P0 P1 P2 P3 n h l := by
  rw [pay8_apply, yV_apply, mmV_apply, Yr, Spec.y]
  simp only [xs_row]

/-- The turned heads, as specified. -/
theorem rot_row (n : Fin 16384) (h : Fin 12) (l : Fin 128) : k0_pay9 (k0_pay6 P0 P1) (k0_pay7 P0 P1) P2 P3 P4 P5 (ix3 n h l) =
    Spec.rot (fun l => Yr P0 P1 P2 P3 n ⟨h.val, by omega⟩ l) (fun l => ang P4 P5 n l) l := by
  rw [pay9_eq, rot_apply]
  simp only [y_row, ang_apply]
  rfl

/-- Row `s` of sequence `b` among the rows. -/
def row (b : Fin 4) (s : Fin 4096) : Fin 16384 := ⟨b.val * 4096 + s.val, by omega⟩

/-- The turned queries. -/
theorem q_val (b : Fin 4) (h : Fin 10) (s : Fin 4096) (l : Fin 128) : k0_pay10 (k0_pay6 P0 P1) (k0_pay7 P0 P1) P2 P3 P4 P5 (ix4 b h s l) =
    Spec.rot (fun l => Yr P0 P1 P2 P3 (row b s) ⟨h.val, by omega⟩ l) (fun l => ang P4 P5 (row b s) l) l := by
  rw [pay10_eq, qV_apply, rot_row]; rfl

/-- The turned keys. -/
theorem k_val (b : Fin 4) (s : Fin 4096) (h : Fin 2) (l : Fin 128) : k0_pay11 (k0_pay6 P0 P1) (k0_pay7 P0 P1) P2 P3 P4 P5 (ix4 b s h l) =
    Spec.rot (fun l => Yr P0 P1 P2 P3 (row b s) ⟨10 + h.val, by omega⟩ l) (fun l => ang P4 P5 (row b s) l) l := by
  rw [pay11_eq, kV_apply, rot_row]; rfl

/-- The values. -/
theorem v_val (b : Fin 4) (s : Fin 4096) (h : Fin 2) (l : Fin 128) : k0_pay1 (k0_pay8 (k0_pay6 P0 P1) (k0_pay7 P0 P1) P2 P3) (ix4 b s h l) =
    Yr P0 P1 P2 P3 (row b s) ⟨12 + h.val, by omega⟩ l := by
  rw [pay1_apply, y_row]; rfl

/-- The codes. -/
theorem codes_val (b : Fin 4) (s : Fin 4096) (k : Fin 5120) : k0_pay2 (k0_pay7 P0 P1) (ix3 b s k) =
    Spec.cd (fun k => P0 (ix2 (row b s) k)) (fun k => P1 (ix2 0 k)) k := by
  rw [pay2_apply, code_row, show Spec.col ⟨k.val / 128, by omega⟩ ⟨k.val % 128, by omega⟩ = k from Fin.ext (by simp only [Spec.col]; omega)]
  rfl

/-- The scales. -/
theorem scale_val (b : Fin 4) (g : Fin 40) (s : Fin 4096) : k0_pay3 (k0_pay6 P0 P1) (ix3 b g s) =
    Spec.sc (fun k => P0 (ix2 (row b s) k)) (fun k => P1 (ix2 0 k)) g := by
  rw [pay3_apply, scale_row]; rfl

end Cert.Proof.Ref

end
-- ==== Proof.RefArrays.lean ====
/- The reference's five result arrays after the run are the results of `Out`. -/
module

public import proofs.«01_k».proof.Proof.RefValue
public import proofs.«01_k».proof.Proof.Out
public import Idealize.ShloMosaic.Lib.Pipeline.ValueKit

@[expose] public section

set_option maxRecDepth 16384
set_option backward.proofsInPublic true

noncomputable section

namespace Cert.Proof.RefArrays

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (c : Dev nD)

/-- The activations at entry. -/
theorem V8 : (V m c main_v8 : Vec Ideal S16384x5120 .bf16) = shapeCast S16384x5120 (m ((c : Thread nD τ).loc main_arg0) : Vec Ideal S4x4096x5120 .bf16) shapeCasts_S4x4096x5120_S16384x5120 := by
  unfold V; after_results; try rfl

/-- The norm weights at entry. -/
theorem V10 : (V m c main_v10 : Vec Ideal S1x5120 .f32) = broadcastInDim S1x5120 ![1] bcast_S5120_S1x5120_1 (extf (F := Ideal) .f32 (m ((c : Thread nD τ).loc main_arg1) : Vec Ideal S5120 .bf16) bitsLt_bf16_f32) := by
  unfold V; after_results; try rfl

/-- The weights' scales at entry. -/
theorem V11 : (V m c main_v11 : Vec Ideal S1x1792 .f32) = broadcastInDim S1x1792 ![1] bcast_S1792_S1x1792_1 (m ((c : Thread nD τ).loc main_arg3) : Vec Ideal S1792 .f32) := by
  unfold V; after_results; try rfl

/-- The frequencies at entry. -/
theorem V12 : (V m c main_v12 : Vec Ideal S1x64 .f32) = broadcastInDim S1x64 ![1] bcast_S64_S1x64_1 Out.freq := by
  unfold V; after_results; try rfl

/-- Each input is staged whole. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := (by decide +kernel : ∀ t : Fin grid0.N, _)

/-- The scales are computed from the staged activations and norm weights. -/
theorem p12 (x0 : Vec Ideal S16384x5120 .bf16) (x1 : Vec Ideal S1x5120 .f32) (x2 : Vec Ideal S5120x1792 .fp8e4m3) (x3 : Vec Ideal S1x1792 .f32) (x4 : Vec Ideal S4x4096 .i32) (x5 : Vec Ideal S1x64 .f32) :
    k0_pay12 x0 x1 x2 x3 x4 x5 = k0_pay6 x0 x1 := by
  unfold k0_pay12
  simp (disch := decide) only [View.ld_unit_lit']

/-- The codes are computed from the staged activations and norm weights. -/
theorem p13 (x0 : Vec Ideal S16384x5120 .bf16) (x1 : Vec Ideal S1x5120 .f32) (x2 : Vec Ideal S5120x1792 .fp8e4m3) (x3 : Vec Ideal S1x1792 .f32) (x4 : Vec Ideal S4x4096 .i32) (x5 : Vec Ideal S1x64 .f32) :
    k0_pay13 x0 x1 x2 x3 x4 x5 = k0_pay7 x0 x1 := by
  unfold k0_pay13
  simp (disch := decide) only [View.ld_unit_lit']

/-- The batches' rows laid one after another. -/
theorem rows (x : Vec Ideal S4x4096x5120 .bf16) (n : Fin 16384) (k : Fin 5120) :
    shapeCast S16384x5120 x shapeCasts_S4x4096x5120_S16384x5120 (ix2 n k) = x (ix3 ⟨n.val / 4096, by omega⟩ ⟨n.val % 4096, Nat.mod_lt _ (by decide)⟩ k) := by
  pointwise

/-- The staged activations: row `b`, `s` is that row of the argument. -/
theorem b0 (b : Fin 4) (s : Fin 4096) (k : Fin 5120) : (iblk m c 0 t0_0 : Vec Ideal S16384x5120 .bf16) (ix2 (Ref.row b s) k) = (m ((c : Thread nD τ).loc main_arg0) : Vec Ideal S4x4096x5120 .bf16) (ix3 b s k) := by
  have h : (iblk m c 0 t0_0 : Vec Ideal S16384x5120 .bf16) (ix2 (Ref.row b s) k) = (V m c main_v8 : Vec Ideal S16384x5120 .bf16) (ix2 (Ref.row b s) k) := by
    blk_ext [iblk, idx t0_0]
  rw [h, V8]
  refine (rows _ _ k).trans (congrArg (m ((c : Thread nD τ).loc main_arg0) : Vec Ideal S4x4096x5120 .bf16) ?_)
  exact congr (congr (congrArg ix3 (Fin.ext (by simp only [Ref.row]; omega))) (Fin.ext (by simp only [Ref.row]; omega))) rfl

/-- The staged norm weights. -/
theorem b1 (k : Fin 5120) : (iblk m c 1 t0_0 : Vec Ideal S1x5120 .f32) (ix2 0 k) = (m ((c : Thread nD τ).loc main_arg1) : Vec Ideal S5120 .bf16) (ix1 k) := by
  have h : (iblk m c 1 t0_0 : Vec Ideal S1x5120 .f32) (ix2 0 k) = (V m c main_v10 : Vec Ideal S1x5120 .f32) (ix2 0 k) := by
    blk_ext [iblk, idx t0_0]
  rw [h, V10]
  exact congrArg (m ((c : Thread nD τ).loc main_arg1) : Vec Ideal S5120 .bf16) (by funext i; fin_cases i; rfl)

/-- The staged weights. -/
theorem b2 (k : Fin 5120) (l : Fin 1792) : (iblk m c 2 t0_0 : Vec Ideal S5120x1792 .fp8e4m3) (ix2 k l) = (m ((c : Thread nD τ).loc main_arg2) : Vec Ideal S5120x1792 .fp8e4m3) (ix2 k l) := by
  blk_ext [iblk, V, idx t0_0]

/-- The staged weights' scales. -/
theorem b3 (l : Fin 1792) : (iblk m c 3 t0_0 : Vec Ideal S1x1792 .f32) (ix2 0 l) = (m ((c : Thread nD τ).loc main_arg3) : Vec Ideal S1792 .f32) (ix1 l) := by
  have h : (iblk m c 3 t0_0 : Vec Ideal S1x1792 .f32) (ix2 0 l) = (V m c main_v11 : Vec Ideal S1x1792 .f32) (ix2 0 l) := by
    blk_ext [iblk, idx t0_0]
  rw [h, V11]
  exact congrArg (m ((c : Thread nD τ).loc main_arg3) : Vec Ideal S1792 .f32) (by funext i; fin_cases i; rfl)

/-- The staged positions. -/
theorem b4 (a : Fin 4) (s : Fin 4096) : (iblk m c 4 t0_0 : Vec Ideal S4x4096 .i32) (ix2 a s) = (m ((c : Thread nD τ).loc main_arg4) : Vec Ideal S4x4096 .i32) (ix2 a s) := by
  blk_ext [iblk, V, idx t0_0]

/-- The staged frequencies. -/
theorem b5 (l : Fin 64) : (iblk m c 5 t0_0 : Vec Ideal S1x64 .f32) (ix2 0 l) = Out.freq (ix1 l) := by
  have h : (iblk m c 5 t0_0 : Vec Ideal S1x64 .f32) (ix2 0 l) = (V m c main_v12 : Vec Ideal S1x64 .f32) (ix2 0 l) := by
    blk_ext [iblk, idx t0_0]
  rw [h, V12]
  exact congrArg Out.freq (by funext i; fin_cases i; rfl)

/-- The reference's projection is the specified one. -/
theorem y_eq (b : Fin 4) (s : Fin 4096) (h : Fin 14) : (fun l => Ref.Yr (iblk m c 0 t0_0) (iblk m c 1 t0_0) (iblk m c 2 t0_0) (iblk m c 3 t0_0) (Ref.row b s) h l) = Out.yv (m ((c : Thread nD τ).loc main_arg0)) (m ((c : Thread nD τ).loc main_arg1)) (m ((c : Thread nD τ).loc main_arg2)) (m ((c : Thread nD τ).loc main_arg3)) b s h := by
  funext l
  unfold Ref.Yr Out.yv
  rw [show (fun k => (iblk m c 0 t0_0 : Vec Ideal S16384x5120 .bf16) (ix2 (Ref.row b s) k)) = Out.row (m ((c : Thread nD τ).loc main_arg0)) b s from funext fun k => b0 m c b s k,
    show (fun k => (iblk m c 1 t0_0 : Vec Ideal S1x5120 .f32) (ix2 0 k)) = Out.nw (m ((c : Thread nD τ).loc main_arg1)) from funext fun k => b1 m c k, b3]
  exact congrArg (fun M => Spec.y _ _ M _) (funext fun k => b2 m c k _)

/-- The reference's angles are the specified ones. -/
theorem ang_eq (b : Fin 4) (s : Fin 4096) : (fun l => Ref.ang (iblk m c 4 t0_0) (iblk m c 5 t0_0) (Ref.row b s) l) = Out.ang (m ((c : Thread nD τ).loc main_arg4)) b s := by
  funext l
  unfold Ref.ang Out.ang
  rw [b5, b4]
  congr 3
  exact congr (congrArg ix2 (Fin.ext (by simp only [Ref.row]; omega))) (Fin.ext (by simp only [Ref.row]; omega))

/-- The query heads' array after the run. -/
theorem arr6 : (dats m 0 c).arrAt 6 (cfgs 0).N = Out.qA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_0 (by decide +kernel) _ fun j => ?_
  blk_simp
  rw [after0_6]
  frame_out
  generalize hj : (j : S4x10x4096x128.Idx) = z
  obtain ⟨b, h, s, l, rfl⟩ : ∃ (b : Fin 4) (h : Fin 10) (s : Fin 4096) (l : Fin 128), z = ix4 b h s l := ⟨z 0, z 1, z 2, z 3, eq_ix4 z⟩
  simp only [p12, p13]
  refine (Ref.q_val (iblk m c 0 t0_0) (iblk m c 1 t0_0) (iblk m c 2 t0_0) (iblk m c 3 t0_0) (iblk m c 4 t0_0) (iblk m c 5 t0_0) b h s l).trans ?_
  rw [y_eq, ang_eq]
  rfl

/-- The key heads' array after the run. -/
theorem arr7 : (dats m 0 c).arrAt 7 (cfgs 0).N = Out.kA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_0 (by decide +kernel) _ fun j => ?_
  blk_simp
  rw [after0_7]
  frame_out
  generalize hj : (j : S4x4096x2x128.Idx) = z
  obtain ⟨b, s, h, l, rfl⟩ : ∃ (b : Fin 4) (s : Fin 4096) (h : Fin 2) (l : Fin 128), z = ix4 b s h l := ⟨z 0, z 1, z 2, z 3, eq_ix4 z⟩
  simp only [p12, p13]
  refine (Ref.k_val (iblk m c 0 t0_0) (iblk m c 1 t0_0) (iblk m c 2 t0_0) (iblk m c 3 t0_0) (iblk m c 4 t0_0) (iblk m c 5 t0_0) b s h l).trans ?_
  rw [y_eq, ang_eq]
  rfl

/-- The value heads' array after the run. -/
theorem arr8 : (dats m 0 c).arrAt 8 (cfgs 0).N = Out.vA (m ((c : Thread nD τ).loc main_arg0)) (m ((c : Thread nD τ).loc main_arg1)) (m ((c : Thread nD τ).loc main_arg2)) (m ((c : Thread nD τ).loc main_arg3)) := by
  refine (dats m 0 c).arrAt_eq_of_after_last 8 t0_0 (by decide +kernel) _ fun j => ?_
  blk_simp
  rw [after0_8]
  frame_out
  generalize hj : (j : S4x4096x2x128.Idx) = z
  obtain ⟨b, s, h, l, rfl⟩ : ∃ (b : Fin 4) (s : Fin 4096) (h : Fin 2) (l : Fin 128), z = ix4 b s h l := ⟨z 0, z 1, z 2, z 3, eq_ix4 z⟩
  simp only [p12, p13]
  refine (Ref.v_val (iblk m c 0 t0_0) (iblk m c 1 t0_0) (iblk m c 2 t0_0) (iblk m c 3 t0_0) b s h l).trans ?_
  exact congrFun (y_eq m c b s _) l

/-- The codes' array after the run. -/
theorem arr9 : (dats m 0 c).arrAt 9 (cfgs 0).N = Out.codesA (m ((c : Thread nD τ).loc main_arg0)) (m ((c : Thread nD τ).loc main_arg1)) := by
  refine (dats m 0 c).arrAt_eq_of_after_last 9 t0_0 (by decide +kernel) _ fun j => ?_
  blk_simp
  rw [after0_9]
  frame_out
  generalize hj : (j : S4x4096x5120.Idx) = z
  obtain ⟨b, s, k, rfl⟩ : ∃ (b : Fin 4) (s : Fin 4096) (k : Fin 5120), z = ix3 b s k := ⟨z 0, z 1, z 2, eq_ix3 z⟩
  simp only [p12, p13]
  refine (Ref.codes_val (iblk m c 0 t0_0) (iblk m c 1 t0_0) b s k).trans ?_
  rw [show (fun k => (iblk m c 0 t0_0 : Vec Ideal S16384x5120 .bf16) (ix2 (Ref.row b s) k)) = Out.row (m ((c : Thread nD τ).loc main_arg0)) b s from funext fun k => b0 m c b s k,
    show (fun k => (iblk m c 1 t0_0 : Vec Ideal S1x5120 .f32) (ix2 0 k)) = Out.nw (m ((c : Thread nD τ).loc main_arg1)) from funext fun k => b1 m c k]
  rfl

/-- The scales' array after the run. -/
theorem arr10 : (dats m 0 c).arrAt 10 (cfgs 0).N = Out.scaleA (m ((c : Thread nD τ).loc main_arg0)) (m ((c : Thread nD τ).loc main_arg1)) := by
  refine (dats m 0 c).arrAt_eq_of_after_last 10 t0_0 (by decide +kernel) _ fun j => ?_
  blk_simp
  rw [after0_10]
  frame_out
  generalize hj : (j : S4x40x4096.Idx) = z
  obtain ⟨b, g, s, rfl⟩ : ∃ (b : Fin 4) (g : Fin 40) (s : Fin 4096), z = ix3 b g s := ⟨z 0, z 1, z 2, eq_ix3 z⟩
  simp only [p12, p13]
  refine (Ref.scale_val (iblk m c 0 t0_0) (iblk m c 1 t0_0) b g s).trans ?_
  rw [show (fun k => (iblk m c 0 t0_0 : Vec Ideal S16384x5120 .bf16) (ix2 (Ref.row b s) k)) = Out.row (m ((c : Thread nD τ).loc main_arg0)) b s from funext fun k => b0 m c b s k,
    show (fun k => (iblk m c 1 t0_0 : Vec Ideal S1x5120 .f32) (ix2 0 k)) = Out.nw (m ((c : Thread nD τ).loc main_arg1)) from funext fun k => b1 m c k]
  rfl

end Cert.Proof.RefArrays

end
-- ==== Proof.Equal.lean ====
/- The two programs, from memories that agree on the arguments, leave the same five results: those of `Out`. -/
module

public import proofs.«01_k».proof.Defs
public import proofs.«01_k».proof.Proof.Arrays
public import proofs.«01_k».proof.Proof.RefArrays

@[expose] public section

set_option maxRecDepth 16384
set_option backward.proofsInPublic true

noncomputable section

namespace Cert.Proof.Equal

open Idealize.ShloMosaic Idealize.ShloMosaic.TcCoe Idealize.SL.Sem

section

open Cert.KernelIdeal Cert.KernelIdeal.Gen

/-- The kernel's run: its five result arrays are those of `Out`, its arguments as launched. -/
theorem kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v13_0) = Out.qA (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v13_1) = Out.kA (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v13_2) = Out.vA (m ((c : Thread nD τ).loc main_arg0)) (m ((c : Thread nD τ).loc main_arg1)) (m ((c : Thread nD τ).loc main_arg2)) (m ((c : Thread nD τ).loc main_arg3))
      ∧ r.2.mem ((c : Thread nD τ).loc main_v13_3) = Out.codesA (m ((c : Thread nD τ).loc main_arg0)) (m ((c : Thread nD τ).loc main_arg1))
      ∧ r.2.mem ((c : Thread nD τ).loc main_v13_4) = Out.scaleA (m ((c : Thread nD τ).loc main_arg0)) (m ((c : Thread nD τ).loc main_arg1))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4)) :=
  (θ_run defs _ _).mono (fun r h c =>
    ⟨((h c).1 6).trans (Arrays.arr6 m c), ((h c).1 7).trans (Arrays.arr7 m c), ((h c).1 8).trans (Arrays.arr8 m c),
      ((h c).1 9).trans (Arrays.arr9 m c), ((h c).1 10).trans (Arrays.arr10 m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 0).trans (((dats m 0 c).arrAt_in 0 rfl _).trans ((A_eq m c 0).trans (V_main_arg4 m c)))⟩)
    (run_main m ρ)

end

section

open Cert.ReferenceIdeal Cert.ReferenceIdeal.Gen

/-- The reference's run: its five result arrays are those of `Out`, its arguments as launched. -/
theorem reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v13_0) = Out.qA (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v13_1) = Out.kA (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v13_2) = Out.vA (m ((c : Thread nD τ).loc main_arg0)) (m ((c : Thread nD τ).loc main_arg1)) (m ((c : Thread nD τ).loc main_arg2)) (m ((c : Thread nD τ).loc main_arg3))
      ∧ r.2.mem ((c : Thread nD τ).loc main_v13_3) = Out.codesA (m ((c : Thread nD τ).loc main_arg0)) (m ((c : Thread nD τ).loc main_arg1))
      ∧ r.2.mem ((c : Thread nD τ).loc main_v13_4) = Out.scaleA (m ((c : Thread nD τ).loc main_arg0)) (m ((c : Thread nD τ).loc main_arg1))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4)) :=
  (θ_run defs _ _).mono (fun r h c =>
    ⟨((h c).1 6).trans (RefArrays.arr6 m c), ((h c).1 7).trans (RefArrays.arr7 m c), ((h c).1 8).trans (RefArrays.arr8 m c),
      ((h c).1 9).trans (RefArrays.arr9 m c), ((h c).1 10).trans (RefArrays.arr10 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩)
    (run_main m ρ)

end

/-- Both programs leave equal results, and their arguments as launched. -/
theorem algebraic : Cert.algebraic_KernelIdeal_ReferenceIdeal (hKernelIdeal := Cert.KernelIdeal.Gen.facts) (hReferenceIdeal := Cert.ReferenceIdeal.Gen.facts) := by
  intro m ρ m' ρ' _ hm
  refine ⟨_, _, _, _, _, kernel m ρ, (θ_run _ _ _).mono (fun r h c => ?_) (reference m' ρ')⟩
  obtain ⟨h0, h1, h2, h3, h4, k⟩ := h c
  obtain ⟨e0, e1, e2, e3, e4⟩ := hm c
  refine ⟨h0.trans ?_, h1.trans ?_, h2.trans ?_, h3.trans ?_, h4.trans ?_, k⟩
  · exact congr (congr (congr (congr (congrArg Out.qA e0) e1) e2) e3) e4
  · exact congr (congr (congr (congr (congrArg Out.kA e0) e1) e2) e3) e4
  · exact congr (congr (congr (congrArg Out.vA e0) e1) e2) e3
  · exact congr (congrArg Out.codesA e0) e1
  · exact congr (congrArg Out.scaleA e0) e1

end Cert.Proof.Equal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The certificate's claim: the frames are the generated ones, the two named constants are `1 / 5120` and `log 2`, and the
    equality of the results is `Equal.algebraic`. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  ⟨IdealRules.named_const.statement _ _ _ _ _ rfl, IdealRules.named_const.statement _ _ _ _ _ rfl⟩, Equal.algebraic⟩

end Cert.Proof

end
